-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 2048]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x1024 : Shape := ⟨2, ![4096, 1024]⟩
abbrev S_ : Shape := ⟨0, ![]⟩
abbrev S4 : Shape := ⟨1, ![4]⟩
abbrev S1x4096x1024 : Shape := ⟨3, ![1, 4096, 1024]⟩
abbrev S1 : Shape := ⟨1, ![1]⟩
abbrev S256x1024 : Shape := ⟨2, ![256, 1024]⟩
abbrev S1x256x1024 : Shape := ⟨3, ![1, 256, 1024]⟩
abbrev S128x1024 : Shape := ⟨2, ![128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1x4096x2048, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | _, _ => ⟨S1x4096x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v21 : BitVec 32 := Scalar.muli v2 c4_i32_12
  let v22 : BitVec 32 := Scalar.addi c0_i32 v21
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_13 : BitVec 32 := 2#32
  let v23 : BitVec 32 := Scalar.muli v9 c2_i32_13
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v25 : BitVec 32 := Scalar.muli v8 c1_i32_14
  let v26 : BitVec 32 := Scalar.addi v24 v25
  v26.toNat
def k0_dev2 (d0 : Dev nD) : Nat :=
  let c0_i32_17 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_16 : BitVec 32 := 4#32
  let v27 : BitVec 32 := Scalar.muli v10 c4_i32_16
  let v28 : BitVec 32 := Scalar.addi c0_i32_17 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v29 : BitVec 32 := Scalar.muli v5 c2_i32_18
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v31 : BitVec 32 := Scalar.muli v8 c1_i32_19
  let v32 : BitVec 32 := Scalar.addi v30 v31
  v32.toNat
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v33 : BitVec 32 := Scalar.muli v2 c4_i32_21
  let v34 : BitVec 32 := Scalar.addi c0_i32_22 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v35 : BitVec 32 := Scalar.muli v5 c2_i32_23
  let v36 : BitVec 32 := Scalar.addi v34 v35
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_24 : BitVec 32 := 1#32
  let v37 : BitVec 32 := Scalar.muli v11 c1_i32_24
  let v38 : BitVec 32 := Scalar.addi v36 v37
  v38.toNat
def k0_off1 (d0 : Dev nD) : Fin 3 → Nat :=
  let c0_i32_25 : BitVec 32 := 0#32
  let c0_i32_26 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v39 : BitVec 32 := Scalar.muli v5 c1024_i32
  ![0, 0, v39.toNat]
def k0_off2 (d0 : Dev nD) (c0_i32_33 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_32 : BitVec 32 := 1024#32
  let v47 : BitVec 32 := Scalar.muli v13 c1024_i32_32
  let v48 : BitVec 32 := Scalar.addi v47 c0_i32_33
  let c0_i32_34 : BitVec 32 := 0#32
  let v49 : BitVec 32 := Scalar.addi v48 c0_i32_34
  let c0_i32_42 : BitVec 32 := 0#32
  ![v49.toNat, 0]
def k0_off3 (d0 : Dev nD) (c0_i32_28 : BitVec 32) : Fin 3 → Nat :=
  let c0_i32_35 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_27 : BitVec 32 := 1024#32
  let v42 : BitVec 32 := Scalar.muli v13 c1024_i32_27
  let v43 : BitVec 32 := Scalar.addi v42 c0_i32_28
  let c0_i32_29 : BitVec 32 := 0#32
  let v44 : BitVec 32 := Scalar.addi v43 c0_i32_29
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_30 v5
  let c1024_i32_31 : BitVec 32 := 1024#32
  let v46 : BitVec 32 := Scalar.muli v45 c1024_i32_31
  ![0, v44.toNat, v46.toNat]
def k0_dev4 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v50 : BitVec 32 := Scalar.muli v2 c4_i32_38
  let v51 : BitVec 32 := Scalar.addi c0_i32_39 v50
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_40 : BitVec 32 := 2#32
  let v52 : BitVec 32 := Scalar.muli v9 c2_i32_40
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v54 : BitVec 32 := Scalar.muli v8 c1_i32_41
  let v55 : BitVec 32 := Scalar.addi v53 v54
  v55.toNat
def k0_dev5 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v71 : BitVec 32 := Scalar.muli v2 c4_i32_53
  let v72 : BitVec 32 := Scalar.addi c0_i32_54 v71
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_55 : BitVec 32 := 2#32
  let v73 : BitVec 32 := Scalar.muli v9 c2_i32_55
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v75 : BitVec 32 := Scalar.muli v8 c1_i32_56
  let v76 : BitVec 32 := Scalar.addi v74 v75
  v76.toNat
def k0_dev6 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v92 : BitVec 32 := Scalar.muli v2 c4_i32_68
  let v93 : BitVec 32 := Scalar.addi c0_i32_69 v92
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_70 : BitVec 32 := 2#32
  let v94 : BitVec 32 := Scalar.muli v9 c2_i32_70
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v96 : BitVec 32 := Scalar.muli v8 c1_i32_71
  let v97 : BitVec 32 := Scalar.addi v95 v96
  v97.toNat
def k0_dev7 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v113 : BitVec 32 := Scalar.muli v2 c4_i32_83
  let v114 : BitVec 32 := Scalar.addi c0_i32_84 v113
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_85 : BitVec 32 := 2#32
  let v115 : BitVec 32 := Scalar.muli v9 c2_i32_85
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v117 : BitVec 32 := Scalar.muli v8 c1_i32_86
  let v118 : BitVec 32 := Scalar.addi v116 v117
  v118.toNat
def k0_dev8 (d0 : Dev nD) : Nat :=
  let c0_i32_111 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_110 : BitVec 32 := 4#32
  let v148 : BitVec 32 := Scalar.muli v10 c4_i32_110
  let v149 : BitVec 32 := Scalar.addi c0_i32_111 v148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v150 : BitVec 32 := Scalar.muli v5 c2_i32_112
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v152 : BitVec 32 := Scalar.muli v8 c1_i32_113
  let v153 : BitVec 32 := Scalar.addi v151 v152
  v153.toNat
def k0_dev9 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v166 : BitVec 32 := Scalar.muli v2 c4_i32_124
  let v167 : BitVec 32 := Scalar.addi c0_i32_125 v166
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v168 : BitVec 32 := Scalar.muli v5 c2_i32_126
  let v169 : BitVec 32 := Scalar.addi v167 v168
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_127 : BitVec 32 := 1#32
  let v170 : BitVec 32 := Scalar.muli v11 c1_i32_127
  let v171 : BitVec 32 := Scalar.addi v169 v170
  v171.toNat
def k0_dev10 (d0 : Dev nD) : Nat :=
  let c0_i32_153 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_152 : BitVec 32 := 4#32
  let v200 : BitVec 32 := Scalar.muli v10 c4_i32_152
  let v201 : BitVec 32 := Scalar.addi c0_i32_153 v200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_154 : BitVec 32 := 2#32
  let v202 : BitVec 32 := Scalar.muli v5 c2_i32_154
  let v203 : BitVec 32 := Scalar.addi v201 v202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v204 : BitVec 32 := Scalar.muli v8 c1_i32_155
  let v205 : BitVec 32 := Scalar.addi v203 v204
  v205.toNat
def k0_dev11 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v218 : BitVec 32 := Scalar.muli v2 c4_i32_166
  let v219 : BitVec 32 := Scalar.addi c0_i32_167 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v220 : BitVec 32 := Scalar.muli v5 c2_i32_168
  let v221 : BitVec 32 := Scalar.addi v219 v220
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_169 : BitVec 32 := 1#32
  let v222 : BitVec 32 := Scalar.muli v11 c1_i32_169
  let v223 : BitVec 32 := Scalar.addi v221 v222
  v223.toNat
def k0_dev12 (d0 : Dev nD) : Nat :=
  let c0_i32_195 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_194 : BitVec 32 := 4#32
  let v252 : BitVec 32 := Scalar.muli v10 c4_i32_194
  let v253 : BitVec 32 := Scalar.addi c0_i32_195 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v254 : BitVec 32 := Scalar.muli v5 c2_i32_196
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v256 : BitVec 32 := Scalar.muli v8 c1_i32_197
  let v257 : BitVec 32 := Scalar.addi v255 v256
  v257.toNat
def k0_dev13 (d0 : Dev nD) : Nat :=
  let c0_i32_209 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_208 : BitVec 32 := 4#32
  let v270 : BitVec 32 := Scalar.muli v2 c4_i32_208
  let v271 : BitVec 32 := Scalar.addi c0_i32_209 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_210 : BitVec 32 := 2#32
  let v272 : BitVec 32 := Scalar.muli v5 c2_i32_210
  let v273 : BitVec 32 := Scalar.addi v271 v272
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_211 : BitVec 32 := 1#32
  let v274 : BitVec 32 := Scalar.muli v11 c1_i32_211
  let v275 : BitVec 32 := Scalar.addi v273 v274
  v275.toNat
def k0_dev14 (d0 : Dev nD) : Nat :=
  let c0_i32_237 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_236 : BitVec 32 := 4#32
  let v304 : BitVec 32 := Scalar.muli v10 c4_i32_236
  let v305 : BitVec 32 := Scalar.addi c0_i32_237 v304
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v306 : BitVec 32 := Scalar.muli v5 c2_i32_238
  let v307 : BitVec 32 := Scalar.addi v305 v306
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_239 : BitVec 32 := 1#32
  let v308 : BitVec 32 := Scalar.muli v8 c1_i32_239
  let v309 : BitVec 32 := Scalar.addi v307 v308
  v309.toNat
def k0_dev15 (d0 : Dev nD) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_250 : BitVec 32 := 4#32
  let v322 : BitVec 32 := Scalar.muli v2 c4_i32_250
  let v323 : BitVec 32 := Scalar.addi c0_i32_251 v322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v324 : BitVec 32 := Scalar.muli v5 c2_i32_252
  let v325 : BitVec 32 := Scalar.addi v323 v324
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_253 : BitVec 32 := 1#32
  let v326 : BitVec 32 := Scalar.muli v11 c1_i32_253
  let v327 : BitVec 32 := Scalar.addi v325 v326
  v327.toNat
def k0_off4 (d0 : Dev nD) (c0_i32_260 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_259 : BitVec 32 := 1024#32
  let v337 : BitVec 32 := Scalar.muli v16 c1024_i32_259
  let v338 : BitVec 32 := Scalar.addi v337 c0_i32_260
  let c0_i32_261 : BitVec 32 := 0#32
  let v339 : BitVec 32 := Scalar.addi v338 c0_i32_261
  let c0_i32_268 : BitVec 32 := 0#32
  ![v339.toNat, 0]
def k0_off5 (d0 : Dev nD) (c0_i32_273 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_272 : BitVec 32 := 1024#32
  let v353 : BitVec 32 := Scalar.muli v16 c1024_i32_272
  let v354 : BitVec 32 := Scalar.addi v353 c0_i32_273
  let c128_i32_274 : BitVec 32 := 128#32
  let v355 : BitVec 32 := Scalar.addi v354 c128_i32_274
  let c0_i32_281 : BitVec 32 := 0#32
  ![v355.toNat, 0]
def k0_dev16 (d0 : Dev nD) : Nat :=
  let c0_i32_278 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_277 : BitVec 32 := 4#32
  let v356 : BitVec 32 := Scalar.muli v2 c4_i32_277
  let v357 : BitVec 32 := Scalar.addi c0_i32_278 v356
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_279 : BitVec 32 := 2#32
  let v358 : BitVec 32 := Scalar.muli v5 c2_i32_279
  let v359 : BitVec 32 := Scalar.addi v357 v358
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_280 : BitVec 32 := 1#32
  let v360 : BitVec 32 := Scalar.muli v11 c1_i32_280
  let v361 : BitVec 32 := Scalar.addi v359 v360
  v361.toNat
def k0_off6 (d0 : Dev nD) (c0_i32_287 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_286 : BitVec 32 := 1024#32
  let v371 : BitVec 32 := Scalar.muli v19 c1024_i32_286
  let v372 : BitVec 32 := Scalar.addi v371 c0_i32_287
  let c0_i32_288 : BitVec 32 := 0#32
  let v373 : BitVec 32 := Scalar.addi v372 c0_i32_288
  let c0_i32_295 : BitVec 32 := 0#32
  ![v373.toNat, 0]
def k0_off7 (d0 : Dev nD) (c0_i32_301 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_300 : BitVec 32 := 1024#32
  let v387 : BitVec 32 := Scalar.muli v19 c1024_i32_300
  let v388 : BitVec 32 := Scalar.addi v387 c0_i32_301
  let c0_i32_302 : BitVec 32 := 0#32
  let v389 : BitVec 32 := Scalar.addi v388 c0_i32_302
  let c0_i32_309 : BitVec 32 := 0#32
  ![v389.toNat, 0]
def k0_dev17 (d0 : Dev nD) : Nat :=
  let c0_i32_306 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_305 : BitVec 32 := 4#32
  let v390 : BitVec 32 := Scalar.muli v10 c4_i32_305
  let v391 : BitVec 32 := Scalar.addi c0_i32_306 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v392 : BitVec 32 := Scalar.muli v5 c2_i32_307
  let v393 : BitVec 32 := Scalar.addi v391 v392
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_308 : BitVec 32 := 1#32
  let v394 : BitVec 32 := Scalar.muli v8 c1_i32_308
  let v395 : BitVec 32 := Scalar.addi v393 v394
  v395.toNat
def k0_dev18 (d0 : Dev nD) : Nat :=
  let c0_i32_334 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_333 : BitVec 32 := 4#32
  let v424 : BitVec 32 := Scalar.muli v2 c4_i32_333
  let v425 : BitVec 32 := Scalar.addi c0_i32_334 v424
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_335 : BitVec 32 := 2#32
  let v426 : BitVec 32 := Scalar.muli v5 c2_i32_335
  let v427 : BitVec 32 := Scalar.addi v425 v426
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_336 : BitVec 32 := 1#32
  let v428 : BitVec 32 := Scalar.muli v11 c1_i32_336
  let v429 : BitVec 32 := Scalar.addi v427 v428
  v429.toNat
def k0_dev19 (d0 : Dev nD) : Nat :=
  let c0_i32_362 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_361 : BitVec 32 := 4#32
  let v458 : BitVec 32 := Scalar.muli v10 c4_i32_361
  let v459 : BitVec 32 := Scalar.addi c0_i32_362 v458
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_363 : BitVec 32 := 2#32
  let v460 : BitVec 32 := Scalar.muli v5 c2_i32_363
  let v461 : BitVec 32 := Scalar.addi v459 v460
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v462 : BitVec 32 := Scalar.muli v8 c1_i32_364
  let v463 : BitVec 32 := Scalar.addi v461 v462
  v463.toNat
def k0_dev20 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v492 : BitVec 32 := Scalar.muli v2 c4_i32_389
  let v493 : BitVec 32 := Scalar.addi c0_i32_390 v492
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v494 : BitVec 32 := Scalar.muli v5 c2_i32_391
  let v495 : BitVec 32 := Scalar.addi v493 v494
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_392 : BitVec 32 := 1#32
  let v496 : BitVec 32 := Scalar.muli v11 c1_i32_392
  let v497 : BitVec 32 := Scalar.addi v495 v496
  v497.toNat
def k0_dev21 (d0 : Dev nD) : Nat :=
  let c0_i32_418 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_417 : BitVec 32 := 4#32
  let v526 : BitVec 32 := Scalar.muli v10 c4_i32_417
  let v527 : BitVec 32 := Scalar.addi c0_i32_418 v526
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_419 : BitVec 32 := 2#32
  let v528 : BitVec 32 := Scalar.muli v5 c2_i32_419
  let v529 : BitVec 32 := Scalar.addi v527 v528
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_420 : BitVec 32 := 1#32
  let v530 : BitVec 32 := Scalar.muli v8 c1_i32_420
  let v531 : BitVec 32 := Scalar.addi v529 v530
  v531.toNat
def k0_dev22 (d0 : Dev nD) : Nat :=
  let c0_i32_446 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_445 : BitVec 32 := 4#32
  let v560 : BitVec 32 := Scalar.muli v2 c4_i32_445
  let v561 : BitVec 32 := Scalar.addi c0_i32_446 v560
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_447 : BitVec 32 := 2#32
  let v562 : BitVec 32 := Scalar.muli v5 c2_i32_447
  let v563 : BitVec 32 := Scalar.addi v561 v562
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_448 : BitVec 32 := 1#32
  let v564 : BitVec 32 := Scalar.muli v11 c1_i32_448
  let v565 : BitVec 32 := Scalar.addi v563 v564
  v565.toNat
def k0_dev23 (d0 : Dev nD) : Nat :=
  let c0_i32_474 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_473 : BitVec 32 := 4#32
  let v594 : BitVec 32 := Scalar.muli v10 c4_i32_473
  let v595 : BitVec 32 := Scalar.addi c0_i32_474 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_475 : BitVec 32 := 2#32
  let v596 : BitVec 32 := Scalar.muli v5 c2_i32_475
  let v597 : BitVec 32 := Scalar.addi v595 v596
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_476 : BitVec 32 := 1#32
  let v598 : BitVec 32 := Scalar.muli v8 c1_i32_476
  let v599 : BitVec 32 := Scalar.addi v597 v598
  v599.toNat
def k0_off8 (d0 : Dev nD) (c0_i32_486 : BitVec 32) (c0_i32_487 : BitVec 32) : Fin 2 → Nat :=
  let c2_i32_480 : BitVec 32 := 2#32
  let c1_i32_479 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v606 : BitVec 32 := Scalar.subi c1_i32_479 v2
  let v607 : BitVec 32 := Scalar.muli c2_i32_480 v606
  let c1_i32_481 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v608 : BitVec 32 := Scalar.subi c1_i32_481 v8
  let v609 : BitVec 32 := Scalar.addi v607 v608
  let c1024_i32_485 : BitVec 32 := 1024#32
  let v613 : BitVec 32 := Scalar.muli v609 c1024_i32_485
  let v614 : BitVec 32 := Scalar.addi v613 c0_i32_486
  let v615 : BitVec 32 := Scalar.addi v614 c0_i32_487
  let c0_i32_494 : BitVec 32 := 0#32
  ![v615.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S_ : Shape := ⟨0, ![]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S_, .f32⟩
  | .hbm, ⟨2, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Geo.lean ====
/-
Where the kernel's transfers go and what they carry.

The mesh is 2 x 2 x 2; device `4x + 2y + z` sits at `(x, y, z)`. Each device receives the other half of the sum for its
own columns: 4096 rows, cut into four quarters, one per `(x, z)`. A transfer is numbered `t = 4 * kind + chunk`:

* kind 0 carries a 256-row chunk of `x` from the device across the `y` axis;
* kinds 1 and 2 carry a chunk that arrived by kind 0 on to the neighbour across the `x` and the `z` axis;
* kinds 3 and 4 carry half a chunk that arrived by kind 2 (by kind 1) on across the `x` (the `z`) axis.

Everything is stated for one transfer `t`, whichever it is.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdx
public import Idealize.ShloMosaic.Lib.ValueLayout
public import Idealize.ShloMosaic.Lib.Tactic

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours -/

set_option backward.proofsInPublic true in
/-- The device across the `y` axis. -/
def yp (c : Dev nD) : Dev nD := ⟨(4 * (c.val / 4) + (c.val % 2) + 2) - 2 * ((c.val / 2) % 2), by have h := c.isLt; simp only [nD] at h ⊢; omega⟩
set_option backward.proofsInPublic true in
/-- The device across the `x` axis. -/
def xn (c : Dev nD) : Dev nD := ⟨(2 * ((c.val / 2) % 2) + (c.val % 2) + 4) - 4 * (c.val / 4), by have h := c.isLt; simp only [nD] at h ⊢; omega⟩
set_option backward.proofsInPublic true in
/-- The device across the `z` axis. -/
def zn (c : Dev nD) : Dev nD := ⟨(4 * (c.val / 4) + 2 * ((c.val / 2) % 2) + 1) - (c.val % 2), by have h := c.isLt; simp only [nD] at h ⊢; omega⟩

/-- Where transfer `t` of device `c` goes; also whom transfer `t` into `c` comes from. -/
def peer (t : Fin 20) (c : Dev nD) : Dev nD :=
  if t.val < 4 then yp c else if t.val < 8 then xn c else if t.val < 12 then zn c else if t.val < 16 then xn c else zn c

theorem yp_yp : ∀ c : Dev nD, yp (yp c) = c := by decide
theorem xn_xn : ∀ c : Dev nD, xn (xn c) = c := by decide
theorem zn_zn : ∀ c : Dev nD, zn (zn c) = c := by decide
theorem peer_peer (t : Fin 20) (c : Dev nD) : peer t (peer t c) = c := by
  unfold peer; split <;> [exact yp_yp c; (split <;> [exact xn_xn c; (split <;> [exact zn_zn c; (split <;> [exact xn_xn c; exact zn_zn c])])])]

/-! ## Rows -/

/-- The first row of the quarter transfer `t` into device `c` fills. -/
def qrow (t : Fin 20) (c : Dev nD) : ℕ :=
  if t.val < 4 then 2048 * (c.val / 4) + 1024 * (c.val % 2)
  else if t.val < 8 then (2048 - 2048 * (c.val / 4)) + 1024 * (c.val % 2)
  else if t.val < 12 then 2048 * (c.val / 4) + (1024 - 1024 * (c.val % 2))
  else (2048 - 2048 * (c.val / 4)) + (1024 - 1024 * (c.val % 2))
/-- The first row transfer `t` into device `c` fills, -/
def lo (t : Fin 20) (c : Dev nD) : ℕ := qrow t c + 256 * (t.val % 4) + (if t.val < 16 then 0 else 128)
/-- and how many. -/
def len (t : Fin 20) : ℕ := if t.val < 12 then 256 else 128

/-- The elements of the landing buffer in `n` rows from row `a`. -/
def rows (a n : ℕ) : Finset S4096x1024.Idx := Finset.univ.filter fun i => a ≤ (i 0).val ∧ (i 0).val < a + n
/-- The elements transfer `t` into device `c` fills. -/
def piece (t : Fin 20) (c : Dev nD) : Finset S4096x1024.Idx := rows (lo t c) (len t)

theorem mem_rows {a n : ℕ} {i : S4096x1024.Idx} : i ∈ rows a n ↔ a ≤ (i 0).val ∧ (i 0).val < a + n := by
  unfold rows; rw [Finset.mem_filter]; exact ⟨fun h => h.2, fun h => ⟨Finset.mem_univ _, h⟩⟩

theorem rows_disjoint {a n b k : ℕ} (h : a + n ≤ b ∨ b + k ≤ a) : Disjoint (rows a n) (rows b k) :=
  Finset.disjoint_left.mpr fun i hi hj => by rw [mem_rows] at hi hj; omega

theorem rows_union {a n k : ℕ} : rows a (n + k) = rows a n ∪ rows (a + n) k := by
  ext i; rw [Finset.mem_union, mem_rows, mem_rows, mem_rows]; omega

theorem sep_pieces : ∀ (c : Dev nD) (t t' : Fin 20), t ≠ t' → lo t c + len t ≤ lo t' c ∨ lo t' c + len t' ≤ lo t c := by decide +kernel
theorem cover_pieces : ∀ (c : Dev nD) (a : Fin 32), ∃ t : Fin 20, lo t c ≤ 128 * a.val ∧ 128 * a.val + 128 ≤ lo t c + len t := by decide +kernel

theorem pieces_disjoint (c : Dev nD) (t t' : Fin 20) (h : t ≠ t') : Disjoint (piece t c) (piece t' c) := rows_disjoint (sep_pieces c t t' h)

/-- The twenty pieces are the whole landing buffer. -/
theorem pieces_univ (c : Dev nD) : (Finset.univ.biUnion fun t => piece t c) = Finset.univ := by
  ext i
  refine ⟨fun _ => Finset.mem_univ _, fun _ => Finset.mem_biUnion.mpr ?_⟩
  have hi : (i 0).val < 4096 := (i 0).isLt
  obtain ⟨t, h1, h2⟩ := cover_pieces c ⟨(i 0).val / 128, by omega⟩
  refine ⟨t, Finset.mem_univ t, mem_rows.mpr ?_⟩
  dsimp only at h1 h2
  omega

/-- What lands by kind 0 is what kinds 1 and 2 carry on, to the same rows; -/
theorem lo_x : ∀ (c : Dev nD) (r : Fin 4), lo ⟨4 + r.val, by omega⟩ (xn c) = lo ⟨r.val, by omega⟩ c := by decide +kernel
theorem lo_z : ∀ (c : Dev nD) (r : Fin 4), lo ⟨8 + r.val, by omega⟩ (zn c) = lo ⟨r.val, by omega⟩ c := by decide +kernel
/-- of what lands by kind 2, kind 3 carries on the first half, and of what lands by kind 1, kind 4 the second. -/
theorem lo_xh : ∀ (c : Dev nD) (r : Fin 4), lo ⟨12 + r.val, by omega⟩ (xn c) = lo ⟨8 + r.val, by omega⟩ c := by decide +kernel
theorem lo_zh : ∀ (c : Dev nD) (r : Fin 4), lo ⟨16 + r.val, by omega⟩ (zn c) = lo ⟨4 + r.val, by omega⟩ c + 128 := by decide +kernel

/-! ## Views -/

/-- `n` rows of the landing buffer from row `a`, as the kernel slices them. -/
theorem set_rows (o : Fin 2 → ℕ) (size : Fin 2 → ℕ) (inb : ∀ a, o a + size a ≤ S4096x1024.size a) (a n : ℕ) (ho : o = ![a, 0]) (hs : size = ![n, 1024]) :
    ((Memref.whole cc0_scratch0 : Memref sig .tc .vmem S4096x1024 .f32).slice (Rect.unit (s := S4096x1024) o size inb) (fun _ => rfl)).view.set = rows a n := by
  subst ho hs
  show ((View.whole cc0_scratch0).slice (Rect.unit (s := S4096x1024) ![a, 0] ![n, 1024] inb)).set = rows a n
  rw [View.set_slice_whole]
  ext i
  rw [Rect.mem_set_unit, mem_rows]
  have h1 : (i 1).val < 1024 := (i 1).isLt
  refine Iff.trans (Fin.forall_fin_two (p := fun d : Fin 2 => ![a, 0] d ≤ (i d).val ∧ (i d).val < ![a, 0] d + ![n, 1024] d)) ⟨fun h => h.1, fun h => ⟨h, Nat.zero_le _, ?_⟩⟩
  show (i 1).val < 0 + 1024
  omega

/-! ## Contents -/

variable (m : (ℓ : Loc nD τ sig) → Buf (Elt F) ℓ)

set_option backward.proofsInPublic true in
/-- The device across `y` from `c` that holds row `n`'s quarter: its `(x, z)` is the quarter's. -/
def src (c : Dev nD) (n : Fin 4096) : Dev nD := ⟨4 * (n.val / 2048) + 2 * (1 - (c.val / 2) % 2) + (n.val / 1024) % 2, by have h := n.isLt; simp only [nD]; omega⟩

set_option backward.proofsInPublic true in
/-- Column `j` of device `c`'s half of the columns of `x`. -/
def col (c : Dev nD) (j : Fin 1024) : Fin 2048 := ⟨1024 * ((c.val / 2) % 2) + j.val, by have h := j.isLt; omega⟩

/-- Device `c`'s block of `x` at launch. -/
def xAt (c : Dev nD) : (main_arg0 : Ref sig .tc).ty.Contents (Elt F) := m ((c : Thread nD τ).loc main_arg0)

/-- What device `c`'s landing buffer ends at: at each row, that row of `x` at `c`'s columns on the device across `y`
    that holds the row's quarter. -/
def land (c : Dev nD) : (cc0_scratch0 : Ref sig .tc).ty.Contents (Elt F) :=
  fun (i : S4096x1024.Idx) => xAt m (src c (i 0)) (ix3 (0 : Fin 1) (i 0) (col c (i 1)))

/-- Device `c`'s own block of `x` at its columns: what the local copy brings. -/
def own (c : Dev nD) : (cc0_stg0_0 : Ref sig .tc).ty.Contents (Elt F) :=
  fun (i : S4096x1024.Idx) => xAt m c (ix3 (0 : Fin 1) (i 0) (col c (i 1)))

/-- The kernel's result on device `c`. -/
def outAt (c : Dev nD) : (cc0_stg0_0 : Ref sig .tc).ty.Contents (Elt F) := k0_pay1 (own m c) (land m c)

omit [FloatOps F] in
theorem src_half (c c' : Dev nD) (h : (c.val / 2) % 2 = (c'.val / 2) % 2) (n : Fin 4096) : src c n = src c' n := by
  unfold src; simp only [h]
omit [FloatOps F] in
/-- The landing contents are the same on all devices with one `y`. -/
theorem land_half (c c' : Dev nD) (h : (c.val / 2) % 2 = (c'.val / 2) % 2) : land m c = land m c' := by
  have hs : src c = src c' := funext fun n => src_half c c' h n
  have hc : col c = col c' := funext fun j => by unfold col; simp only [h]
  unfold land; rw [hs, hc]
theorem xn_half : ∀ c : Dev nD, ((xn c).val / 2) % 2 = (c.val / 2) % 2 := by decide
theorem zn_half : ∀ c : Dev nD, ((zn c).val / 2) % 2 = (c.val / 2) % 2 := by decide
theorem peer_half (t : Fin 20) (ht : 4 ≤ t.val) (c : Dev nD) : ((peer t c).val / 2) % 2 = (c.val / 2) % 2 := by
  unfold peer; rw [if_neg (by omega)]
  split <;> [exact xn_half c; (split <;> [exact zn_half c; (split <;> [exact xn_half c; exact zn_half c])])]

omit [FloatOps F] in
theorem land_peer (t : Fin 20) (ht : 4 ≤ t.val) (c : Dev nD) : land m (peer t c) = land m c := land_half m _ _ (peer_half t ht c)

/-- A copy of rows to the same rows of another landing buffer leaves the same contents there. -/
theorem write_read_rows {s : Shape} (v : View sig .tc .vmem s .f32) (f g : v.ty.Contents (Elt F)) :
    ∀ i ∈ v.set, v.write (Elt F) f (v.read (Elt F) g) Finset.univ i = g i := fun i hi => by
  rw [View.write_read_eq_piecewise, View.setOn_univ, Finset.piecewise_eq_of_mem _ _ _ hi]

/-- A slice of the block of `x`, its leading unit axis dropped, at an index. -/
theorem read_x_slice {n k : ℕ} (o : Fin 3 → ℕ) (inb : ∀ a, o a + (⟨3, ![1, n, k]⟩ : Shape).size a ≤ S1x4096x2048.size a)
    (hq : (⟨3, ![1, n, k]⟩ : Shape).Squeezes ⟨2, ![n, k]⟩) (f : (main_arg0 : Ref sig .tc).ty.Contents (Elt F)) (a : Fin n) (b : Fin k)
    (a' : Fin 4096) (b' : Fin 2048) (h0 : o 0 = 0) (ha : a'.val = o 1 + a.val) (hb : b'.val = o 2 + b.val) :
    (((Memref.whole main_arg0 : Memref sig .tc .hbm S1x4096x2048 .f32).slice (Rect.unit (s := S1x4096x2048) o (⟨3, ![1, n, k]⟩ : Shape).size inb) (fun _ => rfl)).squeeze
        ⟨2, ![n, k]⟩ hq).view.read (Elt F) f (ix2 a b) = f (ix3 (0 : Fin 1) a' b') := by
  show f ((Rect.unit (s := S1x4096x2048) o (⟨3, ![1, n, k]⟩ : Shape).size inb).emb (Shape.reshapeEquiv hq.numel_eq (ix2 a b))) = _
  rw [show Shape.reshapeEquiv hq.numel_eq (ix2 a b) = ix3 (⟨0, Nat.one_pos⟩ : Fin 1) a b from reshapeEquiv_ix2_1ab hq.numel_eq a b]
  refine congrArg f (funext fun d => Fin.ext ?_)
  fin_cases d
  · show o 0 + 1 * 0 = 0; omega
  · show o 1 + 1 * a.val = a'.val; omega
  · show o 2 + 1 * b.val = b'.val; omega

end Cert.KernelIdeal.Mesh

end
-- ==== Proof.KernelIdeal.Sched.lean ====
/-
The semaphores of the kernel, who pays each of them, what each payment carries, what each device owes and in which
order it may wait.

Transfer `t` counts on a semaphore of the sender (`sS t`) and one of the receiver (`rS t`); every one of them is used
once. The barrier semaphore takes one signal from each of the three neighbours, and the signal hands over the part of
the signaller's landing buffer that the device signalled will write.
-/
module

public import proofs.«01_k».proof.Proof.KernelIdeal.Geo

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's own and the cells', whose duties are at most three a cell. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

/-- The barrier semaphore. -/
abbrev bS : Sem sig := (SemArray.scalar (sig.barrier 0 rfl) : Sems sig S_).sem
set_option backward.proofsInPublic true in
/-- DMA semaphore `k`: 1 is the local copy's, -/
def dS (k : ℕ) (h : k < 42) : DmaSem sig := (⟨k, h⟩ : Fin 42)
set_option backward.proofsInPublic true in
abbrev lS : DmaSem sig := dS 1 (by decide)
set_option backward.proofsInPublic true in
/-- 2 to 21 the senders', -/
abbrev sS (t : Fin 20) : DmaSem sig := dS (2 + t.val) (by omega)
set_option backward.proofsInPublic true in
/-- and 22 to 41 the receivers'. -/
abbrev rS (t : Fin 20) : DmaSem sig := dS (22 + t.val) (by omega)

abbrev bCell (c : Dev nD) : GSem nD τ sig := ((c : Thread nD τ), .reg bS)
abbrev lCell (c : Dev nD) : GSem nD τ sig := ((c : Thread nD τ), .dma lS)
abbrev sCell (t : Fin 20) (c : Dev nD) : GSem nD τ sig := ((c : Thread nD τ), .dma (sS t))
abbrev rCell (t : Fin 20) (c : Dev nD) : GSem nD τ sig := ((c : Thread nD τ), .dma (rS t))

/-- The credit of the local copy and of transfer `t`. -/
def amtL : ℕ := (cc0_stg0_0 : Ref sig .tc).dmaCredit S4096x1024 .f32
def amt (t : Fin 20) : ℕ := if t.val < 12 then (cc0_scratch0 : Ref sig .tc).dmaCredit S256x1024 .f32 else (cc0_scratch0 : Ref sig .tc).dmaCredit S128x1024 .f32
theorem amtL_pos : 0 < amtL := (View.whole cc0_stg0_0).dmaCredit_pos (by decide)
theorem amt_pos : ∀ t, 0 < amt t := by decide +kernel

/-! ## Assertions -/

/-- Device `c`'s landing buffer on `I`, at share `q`, holding `f`. -/
def ldP (c : Dev nD) (I : Finset S4096x1024.Idx) (q : PosShare TreeShare) (f : (cc0_scratch0 : Ref sig .tc).ty.Contents (Elt F)) : sProp 𝕄 :=
  ((c : Thread nD τ).loc cc0_scratch0) ↦[I]{q} f
/-- Device `c`'s block of `x` on `I`, at share `q`. -/
def xP (c : Dev nD) (I : Finset S1x4096x2048.Idx) (q : PosShare TreeShare) : sProp 𝕄 :=
  ((c : Thread nD τ).loc main_arg0) ↦[I]{q} xAt m c
/-- Device `c`'s output window holding `f`. -/
def stP (c : Dev nD) (f : (cc0_stg0_0 : Ref sig .tc).ty.Contents (Elt F)) : sProp 𝕄 :=
  ((c : Thread nD τ).loc cc0_stg0_0) ↦{fullShare} f

omit [FloatOps F] in
instance ldP_storable (c : Dev nD) (I q f) : BI.Storable (upEmb : UEmb _ 𝕄) (ldP (F := F) c I q f) := by unfold ldP; infer_instance
omit [FloatOps F] in
instance xP_storable (c : Dev nD) (I q) : BI.Storable (upEmb : UEmb _ 𝕄) (xP (F := F) m c I q) := by unfold xP; infer_instance
omit [FloatOps F] in
instance stP_storable (c : Dev nD) (f) : BI.Storable (upEmb : UEmb _ 𝕄) (stP (F := F) c f) := by unfold stP; infer_instance

/-- The elements of `x` the local copy reads. -/
def xHalf (c : Dev nD) : Finset S1x4096x2048.Idx := (Rect.unit (s := S1x4096x2048) (k0_off1 c) S1x4096x1024.size (k0_off1_inb c)).set
/-- The elements of `x` chunk `r` of kind 0 reads. -/
def xChunk (r : Fin 4) (c : Dev nD) : Finset S1x4096x2048.Idx :=
  (Rect.unit (s := S1x4096x2048) (k0_off3 c (BitVec.ofNat 32 (256 * r.val))) S1x256x1024.size (k0_off3_inb c r)).set

/-- The five shares `x` is read at: one by the local copy, one by each chunk. -/
def xsh (r : Fin 4) : PosShare TreeShare :=
  if r.val < 2 then (if r.val < 1 then fullShare.right.left.left else fullShare.right.left.right)
  else (if r.val < 3 then fullShare.right.right.left else fullShare.right.right.right)

/-- The share a landed chunk is carried on at. -/
def shr (t : Fin 20) : PosShare TreeShare :=
  if t.val < 8 then fullShare.right.left else if t.val < 12 then fullShare.right.right else fullShare.right

/-- What transfer `t` out of device `c` reads. -/
def Src (t : Fin 20) (c : Dev nD) : sProp 𝕄 :=
  if h : t.val < 4 then xP m c (xChunk ⟨t.val, h⟩ c) (xsh ⟨t.val, h⟩) else ldP c (piece t (peer t c)) (shr t) (land m c)
/-- Where transfer `t` out of device `c` lands. -/
def zone (t : Fin 20) (c : Dev nD) : sProp 𝕄 := iprop(∃ f, ldP (F := F) (peer t c) (piece t (peer t c)) fullShare f)
/-- What transfer `t` into device `c` leaves. -/
def Got (t : Fin 20) (c : Dev nD) : sProp 𝕄 := ldP c (piece t c) fullShare (land m c)
/-- What the local copy leaves and gives back. -/
def locPay (c : Dev nD) : sProp 𝕄 := iprop(stP c (own m c) ∗ xP m c (xHalf c) fullShare.left)

/-- The axis transfer `t` goes along: 0 is `y`, 1 is `x`, 2 is `z`; -/
def grp (t : Fin 20) : Fin 3 := if t.val < 4 then 0 else if t.val < 8 then 1 else if t.val < 12 then 2 else if t.val < 16 then 1 else 2
/-- the neighbour along it. -/
def nb (d : Fin 3) (c : Dev nD) : Dev nD := if d.val < 1 then yp c else if d.val < 2 then xn c else zn c
theorem peer_nb : ∀ (t : Fin 20) (c : Dev nD), peer t c = nb (grp t) c := by decide +kernel
theorem nb_nb : ∀ (d : Fin 3) (c : Dev nD), nb d (nb d c) = c := by decide +kernel

/-- What the signal from the neighbour along `d` hands device `c`: where `c`'s transfers along `d` land. -/
def barPay (d : Fin 3) (c : Dev nD) : sProp 𝕄 := bigSep (Finset.univ.filter fun t => grp t = d) fun t => zone (F := F) t c

omit [FloatOps F] in
instance Src_storable (t : Fin 20) (c : Dev nD) : BI.Storable (upEmb : UEmb _ 𝕄) (Src (F := F) m t c) := by unfold Src; split <;> infer_instance
omit [FloatOps F] in
instance zone_storable (t : Fin 20) (c : Dev nD) : BI.Storable (upEmb : UEmb _ 𝕄) (zone (F := F) t c) := by unfold zone; infer_instance
omit [FloatOps F] in
instance Got_storable (t : Fin 20) (c : Dev nD) : BI.Storable (upEmb : UEmb _ 𝕄) (Got (F := F) m t c) := by unfold Got; infer_instance
omit [FloatOps F] in
instance locPay_storable (c : Dev nD) : BI.Storable (upEmb : UEmb _ 𝕄) (locPay (F := F) m c) := by unfold locPay; infer_instance
omit [FloatOps F] in
instance barPay_storable (d : Fin 3) (c : Dev nD) : BI.Storable (upEmb : UEmb _ 𝕄) (barPay (F := F) d c) := by unfold barPay; infer_instance

/-! ## The schedule -/

set_option backward.proofsInPublic true in
/-- What the payment of DMA semaphore `q` of device `c` carries. -/
def dmaPay (q : Fin 42) (c : Dev nD) : sProp 𝕄 :=
  if h1 : q.val < 2 then locPay m c
  else if h2 : q.val < 22 then Src m ⟨q.val - 2, by omega⟩ c
  else Got m ⟨q.val - 22, by omega⟩ c
set_option backward.proofsInPublic true in
/-- How much it is. -/
def dmaAmt (q : Fin 42) : ℕ :=
  if h1 : q.val < 2 then amtL
  else if h2 : q.val < 22 then amt ⟨q.val - 2, by omega⟩
  else amt ⟨q.val - 22, by omega⟩

theorem dmaAmt_pos (q : Fin 42) : 0 < dmaAmt q := by
  unfold dmaAmt; split <;> [exact amtL_pos; (split <;> exact amt_pos _)]

/-- One round: a barrier cell is paid one unit along each axis, a DMA cell once the credit of its copy. -/
def Rd : Rounds.Schedule (GSem nD τ sig) (Fin 3) 𝕄 where
  duties g r := if r = 0 then (match g.2 with | .reg _ => Finset.univ | .dma _ => {0}) else ∅
  unitless _ := False
  amount g _ _ := match g.2 with | .reg _ => 1 | .dma q => dmaAmt q
  payload g _ d := match g.2 with | .reg _ => barPay d g.1.1 | .dma q => dmaPay m q g.1.1
  amount_pos g _ _ _ := by
    obtain ⟨t, sm⟩ := g
    cases sm with
    | reg s => exact Nat.one_pos
    | dma q => exact dmaAmt_pos q

omit [FloatOps F] in
instance Rd_storable (g : GSem nD τ sig) (r : ℕ) (d : Fin 3) : BI.Storable (upEmb : UEmb _ 𝕄) ((Rd (F := F) m).payload g r d) := by
  obtain ⟨t, sm⟩ := g
  cases sm with
  | reg s => show BI.Storable upEmb (barPay d t.1); infer_instance
  | dma q =>
    show BI.Storable upEmb (dmaPay m q t.1)
    unfold dmaPay
    (repeat' split) <;> infer_instance

section Sched
variable (c : Dev nD) (t : Fin 20)

omit [FloatOps F] in
theorem duties_bar : (Rd (F := F) m).duties (bCell c) 0 = Finset.univ := rfl
omit [FloatOps F] in
theorem duties_dma (q : DmaSem sig) : (Rd (F := F) m).duties ((c : Thread nD τ), .dma q) 0 = {0} := rfl
omit [FloatOps F] in
theorem mem_duties_dma (q : DmaSem sig) : (0 : Fin 3) ∈ (Rd (F := F) m).duties ((c : Thread nD τ), .dma q) 0 := by
  rw [duties_dma]; exact Finset.mem_singleton_self _
omit [FloatOps F] in
theorem duties_later (g : GSem nD τ sig) : ∀ r, 1 ≤ r → (Rd (F := F) m).duties g r = ∅ :=
  fun r hr => by dsimp only [Rd]; rw [if_neg (by omega)]

omit [FloatOps F] in
theorem amount_loc (d : Fin 3) : (Rd (F := F) m).amount (lCell c) 0 d = amtL := by
  show dmaAmt (1 : Fin 42) = _; unfold dmaAmt; exact dif_pos (by decide)
omit [FloatOps F] in
theorem amount_send (d : Fin 3) : (Rd (F := F) m).amount (sCell t c) 0 d = amt t := by
  show dmaAmt (⟨2 + t.val, _⟩ : Fin 42) = _
  unfold dmaAmt; rw [dif_neg (by simp only; omega), dif_pos (by simp only; omega)]
  exact congrArg amt (Fin.ext (by simp only; omega))
omit [FloatOps F] in
theorem amount_recv (d : Fin 3) : (Rd (F := F) m).amount (rCell t c) 0 d = amt t := by
  show dmaAmt (⟨22 + t.val, _⟩ : Fin 42) = _
  unfold dmaAmt; rw [dif_neg (by simp only; omega), dif_neg (by simp only; omega)]
  exact congrArg amt (Fin.ext (by simp only; omega))

omit [FloatOps F] in
theorem expect_bar : (Rd (F := F) m).expect (bCell c) 0 = 3 := by
  unfold Schedule.expect Schedule.amountOf; rw [duties_bar]; rfl
omit [FloatOps F] in
theorem expect_loc : (Rd (F := F) m).expect (lCell c) 0 = amtL := by
  unfold Schedule.expect Schedule.amountOf; rw [duties_dma, Finset.sum_singleton, amount_loc]
omit [FloatOps F] in
theorem expect_send : (Rd (F := F) m).expect (sCell t c) 0 = amt t := by
  unfold Schedule.expect Schedule.amountOf; rw [duties_dma, Finset.sum_singleton, amount_send]
omit [FloatOps F] in
theorem expect_recv : (Rd (F := F) m).expect (rCell t c) 0 = amt t := by
  unfold Schedule.expect Schedule.amountOf; rw [duties_dma, Finset.sum_singleton, amount_recv]

omit [FloatOps F] in
theorem payload_bar (d : Fin 3) : (Rd (F := F) m).payload (bCell c) 0 d = barPay d c := rfl
omit [FloatOps F] in
theorem payload_loc (d : Fin 3) : (Rd (F := F) m).payload (lCell c) 0 d = locPay m c := by
  show dmaPay m (1 : Fin 42) c = _; unfold dmaPay; exact dif_pos (by decide)
omit [FloatOps F] in
theorem payload_send (d : Fin 3) : (Rd (F := F) m).payload (sCell t c) 0 d = Src m t c := by
  show dmaPay m (⟨2 + t.val, _⟩ : Fin 42) c = _
  unfold dmaPay; rw [dif_neg (by simp only; omega), dif_pos (by simp only; omega)]
  exact congrArg (fun t => Src m t c) (Fin.ext (by simp only; omega))
omit [FloatOps F] in
theorem payload_recv (d : Fin 3) : (Rd (F := F) m).payload (rCell t c) 0 d = Got m t c := by
  show dmaPay m (⟨22 + t.val, _⟩ : Fin 42) c = _
  unfold dmaPay; rw [dif_neg (by simp only; omega), dif_neg (by simp only; omega)]
  exact congrArg (fun t => Got m t c) (Fin.ext (by simp only; omega))

omit [FloatOps F] in
/-- A transfer goes along one axis, so the three signals together hand over where every transfer lands. -/
theorem rest_bar : bigSep ((Rd (F := F) m).duties (bCell c) 0 \ ∅) (fun d => (Rd (F := F) m).payload (bCell c) 0 d)
    = bigSep Finset.univ fun t : Fin 20 => zone (F := F) t c := by
  rw [Finset.sdiff_empty, duties_bar]
  show bigSep Finset.univ (fun d => barPay d c) = _
  unfold barPay
  rw [bigSep_fiberwise Finset.univ grp, show Finset.univ.image grp = Finset.univ by decide]
omit [FloatOps F] in
theorem rest_loc : bigSep ((Rd (F := F) m).duties (lCell c) 0 \ ∅) (fun d => (Rd (F := F) m).payload (lCell c) 0 d) = locPay m c := by
  rw [Finset.sdiff_empty, duties_dma, bigSep_singleton, payload_loc]
omit [FloatOps F] in
theorem rest_send : bigSep ((Rd (F := F) m).duties (sCell t c) 0 \ ∅) (fun d => (Rd (F := F) m).payload (sCell t c) 0 d) = Src m t c := by
  rw [Finset.sdiff_empty, duties_dma, bigSep_singleton, payload_send]
omit [FloatOps F] in
theorem rest_recv : bigSep ((Rd (F := F) m).duties (rCell t c) 0 \ ∅) (fun d => (Rd (F := F) m).payload (rCell t c) 0 d) = Got m t c := by
  rw [Finset.sdiff_empty, duties_dma, bigSep_singleton, payload_recv]

end Sched

/-! ## What each device owes, and the levels -/

/-- What device `c` owes for the transfers in `l`, the next one first. -/
def owe (c : Dev nD) : List (Fin 20) → CellTallies nD τ sig Unit
  | [] => 0
  | t :: l => owe c l + tallyAt (rCell t (peer t c)) () (amt t)

/-- What device `c` owes for the barrier signals along the axes in `ds` besides the transfers in `l`. -/
def oweB (c : Dev nD) (l : List (Fin 20)) : List (Fin 3) → CellTallies nD τ sig Unit
  | [] => owe c l
  | d :: ds => oweB c l ds + tallyAt (bCell (nb d c)) () 1

/-- The order in which the kernel issues its transfers. -/
abbrev order : List (Fin 20) := [0, 1, 2, 3, 4, 8, 5, 9, 6, 10, 7, 11, 16, 12, 17, 13, 18, 14, 19, 15]
/-- What device `c` owes at launch. -/
def O₀ (c : Dev nD) : CellTallies nD τ sig Unit := oweB c order [0, 1, 2]

def L (g : GSem nD τ sig) : Finset Unit := if g.1.2 = .tc then {()} else ∅
/-- Barrier cells lie at 1, the receivers' cells above by how often their data was carried, the others at 0. -/
def lvS (s : SemLoc sig) : ℕ := match s with
  | .reg _ => 1
  | .dma q => if (q : Fin 42).val < 22 then 0 else if (q : Fin 42).val < 26 then 2 else if (q : Fin 42).val < 34 then 3 else 4
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {l : List (Fin 20)} {g : GSem nD τ sig} {u : Unit} (h : 0 < owe c l g u) : ∃ t ∈ l, g = rCell t (peer t c) := by
  induction l with
  | nil => exact absurd h (Nat.lt_irrefl 0)
  | cons t l ih =>
    unfold owe at h
    rw [Pi.add_apply, Finsupp.add_apply, tallyAt_apply] at h
    by_cases hg : g = rCell t (peer t c)
    · exact ⟨t, List.mem_cons_self, hg⟩
    · rw [if_neg (fun h' => hg h'.1)] at h
      obtain ⟨t', ht', e⟩ := ih h
      exact ⟨t', List.mem_cons_of_mem _ ht', e⟩

theorem oweB_pos {c : Dev nD} {l : List (Fin 20)} {ds : List (Fin 3)} {g : GSem nD τ sig} {u : Unit} (h : 0 < oweB c l ds g u) :
    (∃ d ∈ ds, g = bCell (nb d c)) ∨ ∃ t ∈ l, g = rCell t (peer t c) := by
  induction ds with
  | nil => exact .inr (owe_pos h)
  | cons d ds ih =>
    unfold oweB at h
    rw [Pi.add_apply, Finsupp.add_apply, tallyAt_apply] at h
    by_cases hg : g = bCell (nb d c)
    · exact .inl ⟨d, List.mem_cons_self, hg⟩
    · rw [if_neg (fun h' => hg h'.1)] at h
      rcases ih h with ⟨d', hd', e⟩ | h'
      · exact .inl ⟨d', List.mem_cons_of_mem _ hd', e⟩
      · exact .inr h'

omit [FloatOps F] in
/-- A device may wait on a semaphore below all it still owes. -/
theorem mayWait_owe (c : Dev nD) (s : SemLoc sig) (l : List (Fin 20)) (h : ∀ t ∈ l, lvS s < lvS (.dma (rS t))) :
    (levAts L lv : sProp 𝕄) ⊢ MayWait (c : Thread nD τ) s () (owe c l) :=
  MayOwe.of_cut (L := L) (lev := lv) (lvS s) (fun p hp => by rw [Finset.mem_singleton.mp hp, L_tc]; exact Finset.mem_singleton_self _)
    (fun g u hg => by obtain ⟨t, -, rfl⟩ := owe_pos hg; exact Finset.mem_singleton_self _)
    (fun p hp => by rw [Finset.mem_singleton.mp hp]; exact le_refl _)
    (fun g u hg => by obtain ⟨t, ht, rfl⟩ := owe_pos hg; exact h t ht)

theorem lv_recv_pos : ∀ t : Fin 20, 0 < lvS (.dma (rS t)) := by decide +kernel

omit [FloatOps F] in
/-- The pipeline's waits on its staging semaphore are below everything. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases oweB_pos hg with ⟨d, -, rfl⟩ | ⟨t, -, rfl⟩ <;> exact Finset.mem_singleton_self _)
      (fun p hp => by rw [Finset.mem_singleton.mp hp]; exact le_of_eq hq)
      (fun g u hg => by
        rcases oweB_pos hg with ⟨d, -, rfl⟩ | ⟨t, -, rfl⟩
        · exact Nat.one_pos
        · exact lv_recv_pos t)
  · rw [MayWait_zero]; iintro -; iempintro

end Cert.KernelIdeal.Mesh

end
-- ==== Proof.KernelIdeal.Pieces.lean ====
/-
How the buffers are cut for the transfers and put together again, and what each transfer writes.
-/
module

public import proofs.«01_k».proof.Proof.KernelIdeal.Sched

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What transfers write -/

/-- Rows of the landing buffer, as the kernel slices them. -/
abbrev ldV (n : ℕ) (o : Fin 2 → ℕ) (inb : ∀ a, o a + (⟨2, ![n, 1024]⟩ : Shape).size a ≤ S4096x1024.size a) : Memref sig .tc .vmem ⟨2, ![n, 1024]⟩ .f32 :=
  (Memref.whole cc0_scratch0 : Memref sig .tc .vmem S4096x1024 .f32).slice (Rect.unit (s := S4096x1024) o (⟨2, ![n, 1024]⟩ : Shape).size inb) (fun _ => rfl)
/-- Part of the block of `x`, as the kernel slices it. -/
abbrev xV (n k : ℕ) (o : Fin 3 → ℕ) (inb : ∀ a, o a + (⟨3, ![1, n, k]⟩ : Shape).size a ≤ S1x4096x2048.size a) (hq : (⟨3, ![1, n, k]⟩ : Shape).Squeezes ⟨2, ![n, k]⟩) :
    Memref sig .tc .hbm ⟨2, ![n, k]⟩ .f32 :=
  ((Memref.whole main_arg0 : Memref sig .tc .hbm S1x4096x2048 .f32).slice (Rect.unit (s := S1x4096x2048) o (⟨3, ![1, n, k]⟩ : Shape).size inb) (fun _ => rfl)).squeeze ⟨2, ![n, k]⟩ hq

theorem ldV_set (n : ℕ) (o inb) (a : ℕ) (ho : o = ![a, 0]) : (ldV n o inb).view.set = rows a n := set_rows o _ inb a n ho rfl
theorem xV_set (n k : ℕ) (o inb hq) : (xV n k o inb hq).view.set = (Rect.unit (s := S1x4096x2048) o (⟨3, ![1, n, k]⟩ : Shape).size inb).set := by
  exact (View.set_reshape _ _).trans (View.set_slice_whole main_arg0 _)

/-- What a forwarding transfer writes. -/
theorem fwd_pay (t : Fin 20) (h4 : 4 ≤ t.val) (c : Dev nD) (n : ℕ) (o inb o' inb') (ho : o = ![lo t (peer t c), 0]) (ho' : o' = ![lo t (peer t c), 0]) (hn : n = len t)
    (fd : (cc0_scratch0 : Ref sig .tc).ty.Contents (Elt F)) :
    (((peer t c : Thread nD τ).loc cc0_scratch0) ↦[(ldV n o inb).view.set]{fullShare} ((ldV n o inb).view.write (Elt F) fd ((ldV n o' inb').view.read (Elt F) (land m c)) Finset.univ) : sProp 𝕄)
      = Got m t (peer t c) := by
  subst hn ho ho'
  unfold Got ldP
  rw [pointsTo_congr (g := land m c) (write_read_rows (ldV (len t) ![lo t (peer t c), 0] inb).view fd (land m c)), ldV_set _ _ _ _ rfl, land_peer m t h4]
  rfl

/-- A row of the quarter of device `c`'s column of the mesh comes from `c`, on the device across `y`. -/
theorem src_yp (c : Dev nD) (n : Fin 4096) (h1 : 2048 * (c.val / 4) + 1024 * (c.val % 2) ≤ n.val) (h2 : n.val < 2048 * (c.val / 4) + 1024 * (c.val % 2) + 1024) : src (yp c) n = c := by
  refine Fin.ext ?_
  show 4 * (n.val / 2048) + 2 * (1 - (((4 * (c.val / 4) + (c.val % 2) + 2) - 2 * ((c.val / 2) % 2)) / 2) % 2) + (n.val / 1024) % 2 = c.val
  have hc : c.val < 8 := c.isLt
  have hn := n.isLt
  omega

/-- What a transfer across `y` writes. -/
theorem y_pay (r : Fin 4) (c : Dev nD) (o inb inb' hq) (ho : o = ![lo ⟨r.val, by omega⟩ (yp c), 0])
    (fd : (cc0_scratch0 : Ref sig .tc).ty.Contents (Elt F)) :
    (((yp c : Thread nD τ).loc cc0_scratch0) ↦[(ldV 256 o inb).view.set]{fullShare}
        ((ldV 256 o inb).view.write (Elt F) fd ((xV 256 1024 (k0_off3 c (BitVec.ofNat 32 (256 * r.val))) inb' hq).view.read (Elt F) (xAt m c)) Finset.univ) : sProp 𝕄)
      = Got m ⟨r.val, by omega⟩ (yp c) := by
  subst ho
  unfold Got ldP
  have hr := r.isLt
  have hlo : lo ⟨r.val, by omega⟩ (yp c) = 2048 * (c.val / 4) + 1024 * (c.val % 2) + 256 * r.val := by
    revert r c; decide +kernel
  rw [pointsTo_congr (g := land m (yp c)), ldV_set _ _ _ _ rfl]
  · unfold piece; rw [show len ⟨r.val, by omega⟩ = 256 by unfold len; exact if_pos (by simp only; omega)]
  · intro i hi
    obtain ⟨j, -, rfl⟩ := Finset.mem_map.mp hi
    rw [View.write_emb_of_mem _ _ (Finset.mem_univ j)]
    have hc : c.val < 8 := c.isLt
    have h0 : (j 0).val < 256 := (j 0).isLt
    have h1 : (j 1).val < 1024 := (j 1).isLt
    obtain ⟨i, hi⟩ : ∃ i : S4096x1024.Idx, i = (Rect.unit (s := S4096x1024) ![lo ⟨r.val, lt_trans hr (by decide)⟩ (yp c), 0] (⟨2, ![256, 1024]⟩ : Shape).size inb).emb j := ⟨_, rfl⟩
    have hN : 2048 * (c.val / 4) + 1024 * (c.val % 2) + 256 * r.val + (j 0).val < 4096 := by clear hi; generalize (j 0).val = a at h0 ⊢; omega
    have e0 : i 0 = (⟨2048 * (c.val / 4) + 1024 * (c.val % 2) + 256 * r.val + (j 0).val, hN⟩ : Fin 4096) :=
      Fin.ext (by rw [hi]; show lo ⟨r.val, by omega⟩ (yp c) + 1 * (j 0).val = _; rw [hlo, Nat.one_mul])
    have e1 : i 1 = (⟨(j 1).val, h1⟩ : Fin 1024) :=
      Fin.ext (by rw [hi]; show 0 + 1 * (j 1).val = (j 1).val; rw [Nat.zero_add, Nat.one_mul])
    have hcol : (col (yp c) ⟨(j 1).val, h1⟩).val = 1024 - 1024 * ((c.val / 2) % 2) + (j 1).val := by
      show 1024 * ((((4 * (c.val / 4) + (c.val % 2) + 2) - 2 * ((c.val / 2) % 2)) / 2) % 2) + (j 1).val = _
      omega
    show (xV 256 1024 (k0_off3 c (BitVec.ofNat 32 (256 * r.val))) inb' hq).view.read (Elt F) (xAt m c) j
      = land m (yp c) ((Rect.unit (s := S4096x1024) ![lo ⟨r.val, lt_trans hr (by decide)⟩ (yp c), 0] (⟨2, ![256, 1024]⟩ : Shape).size inb).emb j)
    rw [← hi]
    show _ = xAt m (src (yp c) (i 0 : Fin 4096))
          (ix3 (0 : Fin 1) (i 0 : Fin 4096) (col (yp c) (i 1 : Fin 1024)))
    rw [e0, e1, src_yp c ⟨_, hN⟩ (by show _ ≤ 2048 * (c.val / 4) + 1024 * (c.val % 2) + 256 * r.val + (j 0).val; omega) (by show 2048 * (c.val / 4) + 1024 * (c.val % 2) + 256 * r.val + (j 0).val < _; clear hi; generalize (j 0).val = a at h0 ⊢; omega)]
    refine (congrArg _ (eq_ix2 j)).trans (read_x_slice _ inb' hq (xAt m c) (j 0) (j 1) _ _ ?_ ?_ ?_)
    · rw [k0_off3_eq]; rfl
    · rw [k0_off3_eq]; rfl
    · rw [k0_off3_eq, hcol]; rfl

/-- What the local copy writes. -/
theorem loc_pay (c : Dev nD) (inb hq) (fd : (cc0_stg0_0 : Ref sig .tc).ty.Contents (Elt F)) :
    (Memref.whole cc0_stg0_0 : Memref sig .tc .vmem S4096x1024 .f32).view.write (Elt F) fd ((xV 4096 1024 (k0_off1 c) inb hq).view.read (Elt F) (xAt m c)) Finset.univ = own m c := by
  show (View.whole cc0_stg0_0).write (Elt F) fd _ Finset.univ = own m c
  rw [View.write_whole_univ]
  refine funext fun (j : S4096x1024.Idx) => ?_
  show (xV 4096 1024 (k0_off1 c) inb hq).view.read (Elt F) (xAt m c) j = xAt m c (ix3 (0 : Fin 1) (j 0) (col c (j 1)))
  refine (congrArg _ (eq_ix2 j)).trans (read_x_slice _ inb hq (xAt m c) (j 0) (j 1) _ _ ?_ ?_ ?_)
  · rw [k0_off1_eq]; rfl
  · rw [k0_off1_eq]; exact (Nat.zero_add _).symm
  · rw [k0_off1_eq]; rfl

/-! ## Cutting up a landed chunk -/

theorem eq_of_bi {P Q : sProp 𝕄} (h : P ⊣⊢ Q) : P = Q := BI.equiv_iff.mp ⟨h.1, h.2⟩
theorem sep_comm_eq (P Q : sProp 𝕄) : iprop(P ∗ Q) = iprop(Q ∗ P) := BI.equiv_iff.mp ⟨BI.sep_comm, BI.sep_comm⟩
theorem sep_emp_eq (P : sProp 𝕄) : iprop(P ∗ emp) = P := BI.equiv_iff.mp BI.sep_emp
theorem emp_sep_eq (P : sProp 𝕄) : iprop(emp ∗ P) = P := BI.equiv_iff.mp BI.emp_sep
theorem ldP_halves (c : Dev nD) (I q f) : (ldP (F := F) c I q f) = iprop(ldP c I q.left f ∗ ldP c I q.right f) :=
  eq_of_bi (pointsTo_share (ℓ := (c : Thread nD τ).loc cc0_scratch0) (I := I) (f := f) (PosShare.mem_left_op_right q))
theorem ldP_rows (c : Dev nD) (a n k q f) : (ldP (F := F) c (rows a (n + k)) q f) = iprop(ldP c (rows a n) q f ∗ ldP c (rows (a + n) k) q f) := by
  unfold ldP; rw [rows_union]; exact eq_of_bi (pointsTo_union (ℓ := (c : Thread nD τ).loc cc0_scratch0) (I := rows a n) (J := rows (a + n) k) (q := q) (f := f) (rows_disjoint (.inl (le_refl _))))

/-- The transfer whose data transfer `t` carries on (100: none, it carries `x`). -/
def par (t : Fin 20) : ℕ := if t.val < 4 then 100 else if t.val < 8 then t.val - 4 else if t.val < 12 then t.val - 8 else if t.val < 16 then t.val - 4 else t.val - 12
/-- The transfers that carry on what transfer `t` brought. -/
def kids (t : Fin 20) : Finset (Fin 20) := Finset.univ.filter fun k => par k = t.val

/-- What stays of a landed chunk, besides the half share kept for the sum. -/
def Keep (t : Fin 20) (c : Dev nD) : sProp 𝕄 :=
  if t.val < 4 then iprop(emp)
  else if t.val < 8 then ldP c (rows (lo t c) 128) fullShare.right (land m c)
  else if t.val < 12 then ldP c (rows (lo t c + 128) 128) fullShare.right (land m c)
  else ldP c (piece t c) fullShare.right (land m c)

/-- A landed chunk: half of it kept for the sum, what the transfers that carry it on read, the rest. -/
theorem Got_split (t : Fin 20) (c : Dev nD) :
    Got (F := F) m t c = iprop(ldP c (piece t c) fullShare.left (land m c) ∗ Keep m t c ∗ bigSep (kids t) fun k => Src m k c) := by
  unfold Got
  rw [ldP_halves]
  have ht := t.isLt
  by_cases h0 : t.val < 4
  · have hk : kids t = {⟨4 + t.val, by omega⟩, ⟨8 + t.val, by omega⟩} := by revert t; decide +kernel
    have hp1 : peer ⟨4 + t.val, by omega⟩ c = xn c := by unfold peer; rw [if_neg (by simp only; omega), if_pos (by simp only; omega)]
    have hp2 : peer ⟨8 + t.val, by omega⟩ c = zn c := by unfold peer; rw [if_neg (by simp only; omega), if_neg (by simp only; omega), if_pos (by simp only; omega)]
    have e1 : Src m ⟨4 + t.val, by omega⟩ c = ldP c (piece t c) fullShare.right.left (land m c) := by
      unfold Src shr piece
      rw [dif_neg (by simp only; omega), hp1, lo_x c ⟨t.val, h0⟩, if_pos (by simp only; omega)]
      unfold len; rw [if_pos (by simp only; omega), if_pos (by omega)]
    have e2 : Src m ⟨8 + t.val, by omega⟩ c = ldP c (piece t c) fullShare.right.right (land m c) := by
      unfold Src shr piece
      rw [dif_neg (by simp only; omega), hp2, lo_z c ⟨t.val, h0⟩, if_neg (by simp only; omega), if_pos (by simp only; omega)]
      unfold len; rw [if_pos (by simp only; omega), if_pos (by omega)]
    rw [hk, bigSep_insert (by rw [Finset.mem_singleton, Fin.mk.injEq]; omega), bigSep_singleton, e1, e2]
    change iprop(_ ∗ _) = iprop(_ ∗ _ ∗ _ ∗ _)
    unfold Keep; rw [if_pos h0, ← ldP_halves c _ fullShare.right]
    exact congrArg (fun Q => iprop(_ ∗ Q)) (emp_sep_eq _).symm
  by_cases h1 : t.val < 8
  · have hk : kids t = {⟨12 + t.val, by omega⟩} := by revert t; decide +kernel
    have hp1 : peer ⟨12 + t.val, by omega⟩ c = zn c := by
      unfold peer; rw [if_neg (by simp only; omega), if_neg (by simp only; omega), if_neg (by simp only; omega), if_neg (by simp only; omega)]
    have hlo : lo ⟨12 + t.val, by omega⟩ (zn c) = lo t c + 128 := by
      have := lo_zh c ⟨t.val - 4, by omega⟩
      simp only [show 16 + (t.val - 4) = 12 + t.val by omega, show 4 + (t.val - 4) = t.val by omega] at this
      exact this
    have e1 : Src m ⟨12 + t.val, by omega⟩ c = ldP c (rows (lo t c + 128) 128) fullShare.right (land m c) := by
      unfold Src shr piece
      rw [dif_neg (by simp only; omega), hp1, hlo, if_neg (by simp only; omega), if_neg (by simp only; omega)]
      unfold len; rw [if_neg (by simp only; omega)]
    have hl : len t = 128 + 128 := by unfold len; exact if_pos (by omega)
    rw [hk, bigSep_singleton, e1]
    unfold Keep; rw [if_neg h0, if_pos h1, ← ldP_rows]
    unfold piece; rw [hl]
  by_cases h2 : t.val < 12
  · have hk : kids t = {⟨4 + t.val, by omega⟩} := by revert t; decide +kernel
    have hp1 : peer ⟨4 + t.val, by omega⟩ c = xn c := by
      unfold peer; rw [if_neg (by simp only; omega), if_neg (by simp only; omega), if_neg (by simp only; omega), if_pos (by simp only; omega)]
    have hlo : lo ⟨4 + t.val, by omega⟩ (xn c) = lo t c := by
      have := lo_xh c ⟨t.val - 8, by omega⟩
      simp only [show 12 + (t.val - 8) = 4 + t.val by omega, show 8 + (t.val - 8) = t.val by omega] at this
      exact this
    have e1 : Src m ⟨4 + t.val, by omega⟩ c = ldP c (rows (lo t c) 128) fullShare.right (land m c) := by
      unfold Src shr piece
      rw [dif_neg (by simp only; omega), hp1, hlo, if_neg (by simp only; omega), if_neg (by simp only; omega)]
      unfold len; rw [if_neg (by simp only; omega)]
    have hl : len t = 128 + 128 := by unfold len; exact if_pos (by omega)
    rw [hk, bigSep_singleton, e1]
    unfold Keep; rw [if_neg h0, if_neg h1, if_pos h2, sep_comm_eq (ldP c (rows (lo t c + 128) 128) _ _), ← ldP_rows]
    unfold piece; rw [hl]
  have hk : kids t = ∅ := by revert t; decide +kernel
  rw [hk, bigSep_empty]
  unfold Keep; rw [if_neg h0, if_neg h1, if_neg h2]
  exact congrArg (fun Q => iprop(_ ∗ Q)) (sep_emp_eq _).symm

/-! ## Cutting up the block of `x`, and the landing buffer -/

theorem xP_halves (c : Dev nD) (I q) : (xP m c I q) = iprop(xP m c I q.left ∗ xP m c I q.right) :=
  eq_of_bi (pointsTo_share (ℓ := (c : Thread nD τ).loc main_arg0) (I := I) (f := xAt m c) (PosShare.mem_left_op_right q))
theorem xP_sub (c : Dev nD) (I q) : (xP m c Finset.univ q) = iprop(xP m c I q ∗ xP m c (Finset.univ \ I) q) :=
  eq_of_bi (pointsTo_split_subset (ℓ := (c : Thread nD τ).loc main_arg0) (q := q) (f := xAt m c) (Finset.subset_univ I))

/-- The parts of the block of `x` no copy reads, at the shares the copies read the rest at. -/
def xRest (c : Dev nD) : sProp 𝕄 :=
  iprop(xP m c (Finset.univ \ xHalf c) fullShare.left ∗ xP m c (Finset.univ \ xChunk 0 c) (xsh 0) ∗ xP m c (Finset.univ \ xChunk 1 c) (xsh 1)
    ∗ xP m c (Finset.univ \ xChunk 2 c) (xsh 2) ∗ xP m c (Finset.univ \ xChunk 3 c) (xsh 3))

/-- The transfers that read `x`. -/
def firsts : Finset (Fin 20) := Finset.univ.filter fun t => par t = 100

theorem bigSep_firsts (Φ : Fin 20 → sProp 𝕄) : bigSep firsts Φ = iprop(Φ 0 ∗ Φ 1 ∗ Φ 2 ∗ Φ 3) := by
  rw [show firsts = {0, 1, 2, 3} by decide +kernel, bigSep_insert (by decide), bigSep_insert (by decide), bigSep_insert (by decide), bigSep_singleton]
  rfl

/-- The block of `x`: what the local copy reads, what the transfers across `y` read, the rest. -/
theorem x_split (c : Dev nD) : xP m c Finset.univ fullShare ⊣⊢ iprop(xP m c (xHalf c) fullShare.left ∗ (bigSep firsts fun t => Src m t c) ∗ xRest m c) := by
  have e0 : Src m 0 c = xP m c (xChunk 0 c) fullShare.right.left.left := by unfold Src; exact dif_pos (by decide)
  have e1 : Src m 1 c = xP m c (xChunk 1 c) fullShare.right.left.right := by unfold Src; exact dif_pos (by decide)
  have e2 : Src m 2 c = xP m c (xChunk 2 c) fullShare.right.right.left := by unfold Src; exact dif_pos (by decide)
  have e3 : Src m 3 c = xP m c (xChunk 3 c) fullShare.right.right.right := by unfold Src; exact dif_pos (by decide)
  rw [bigSep_firsts, e0, e1, e2, e3, xP_halves, xP_halves m c _ fullShare.right, xP_halves m c _ fullShare.right.left, xP_halves m c _ fullShare.right.right,
    xP_sub m c (xHalf c), xP_sub m c (xChunk 0 c), xP_sub m c (xChunk 1 c) fullShare.right.left.right, xP_sub m c (xChunk 2 c) fullShare.right.right.left,
    xP_sub m c (xChunk 3 c) fullShare.right.right.right]
  unfold xRest
  simp only [show xsh 0 = fullShare.right.left.left from rfl, show xsh 1 = fullShare.right.left.right from rfl, show xsh 2 = fullShare.right.right.left from rfl,
    show xsh 3 = fullShare.right.right.right from rfl]
  constructor
  · iintro ⟨⟨H, HR⟩, ⟨⟨H0, R0⟩, H1, R1⟩, ⟨H2, R2⟩, H3, R3⟩
    iframe
  · iintro ⟨H, ⟨H0, H1, H2, H3⟩, HR, R0, R1, R2, R3⟩
    iframe

/-- The landing buffer is its twenty pieces, at any share. -/
theorem ld_pieces (c : Dev nD) (q f) : (ldP (F := F) c Finset.univ q f) = bigSep Finset.univ fun t => ldP c (piece t c) q f := by
  rw [← pieces_univ c]
  exact pointsTo_biUnion (ℓ := (c : Thread nD τ).loc cc0_scratch0) Finset.univ (fun t => piece t c) fun t _ t' _ h => pieces_disjoint c t t' h

end Cert.KernelIdeal.Mesh

end
-- ==== Proof.KernelIdeal.Steps.lean ====
/-
The kernel's operations, each stated once for every transfer.

A device's state is, for each transfer out of it, one of four phases (0: not issued and nothing to carry yet; 1: its data
is there; 2: in flight; 3: its data is back) and, for each transfer into it, whether it has landed.
-/
module

public import proofs.«01_k».proof.Proof.KernelIdeal.Pieces

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows -/

/-- A device's semaphores but the staging one: 0 is the barrier's, the others the DMA ones. -/
def csem (k : Fin 42) : SemLoc sig := if k.val < 1 then .reg bS else .dma (dS k.val k.isLt)
abbrev kcell (ck : Dev nD × Fin 42) : GSem nD τ sig := ((ck.1 : Thread nD τ), csem ck.2)

/-- The invariants of all cells, that each is at its only round, and the levels. -/
def records (K : Dev nD × Fin 42 → ℕ) : sProp 𝕄 :=
  iprop((bigSep Finset.univ fun ck => iprop(cellInv ER (Rd m) (K ck) (kcell ck) ∗ reached ER (kcell ck) 0)) ∗ levAts L lv)

omit [FloatOps F] in
instance records_persistent (K : Dev nD × Fin 42 → ℕ) : BI.Persistent (records (F := F) m K) := by unfold records; infer_instance

omit [FloatOps F] in
theorem csem_bar : csem 0 = .reg bS := rfl
set_option backward.proofsInPublic true in
abbrev ixS (t : Fin 20) : Fin 42 := ⟨2 + t.val, by omega⟩
set_option backward.proofsInPublic true in
abbrev ixR (t : Fin 20) : Fin 42 := ⟨22 + t.val, by omega⟩
theorem csem_loc : csem 1 = .dma lS := rfl
theorem csem_s (t : Fin 20) : csem (ixS t) = .dma (sS t) := by unfold csem; exact if_neg (by simp only; omega)
theorem csem_r (t : Fin 20) : csem (ixR t) = .dma (rS t) := by unfold csem; exact if_neg (by simp only; omega)

variable (K : Dev nD × Fin 42 → ℕ)

theorem records_at (c : Dev nD) (k : Fin 42) (s : SemLoc sig) (hs : csem k = s) :
    records m K ⊢ iprop(cellInv ER (Rd m) (K (c, k)) ((c : Thread nD τ), s) ∗ reached ER ((c : Thread nD τ), s) 0) := by
  subst hs
  have h : (bigSep Finset.univ fun ck => iprop(cellInv ER (Rd m) (K ck) (kcell ck) ∗ reached ER (kcell ck) 0) : sProp 𝕄)
      ⊢ iprop(cellInv ER (Rd m) (K (c, k)) (kcell (c, k)) ∗ reached ER (kcell (c, k)) 0) := bigSep_elim (Finset.mem_univ (c, k))
  unfold records
  iintro ⟨H, -⟩
  iapply h $$ H

theorem records_lev : records m K ⊢ (levAts L lv : sProp 𝕄) := by
  unfold records; iintro ⟨-, H⟩; iexact H

/-! ## The phases -/

/-- What device `c` holds for its transfer `t` before it is issued: the right to pay both its semaphores, its place at its
    own, and where it lands. -/
def Base (t : Fin 20) (c : Dev nD) : sProp 𝕄 :=
  iprop(dutyTok ER (sCell t c) 0 (0 : Fin 3) ∗ dutyTok ER (rCell t (peer t c)) 0 (0 : Fin 3) ∗ atPos ER (sCell t c) 0 (∅ : Finset (Fin 3)) 0 ∗ zone t c)

/-- Device `c`'s transfer `t` in phase `p`. -/
def TS (p : Fin 4) (t : Fin 20) (c : Dev nD) : sProp 𝕄 := match p with
  | 0 => Base t c
  | 1 => iprop(Base t c ∗ Src m t c)
  | 2 => iprop(cred (tallyAt (sCell t c) () (amt t)) ∗ atPos ER (sCell t c) 0 (∅ : Finset (Fin 3)) 0)
  | 3 => iprop(semVal (sCell t c) 0 ∗ Src m t c)

/-- The transfer `t` into device `c`, awaited or landed. -/
def RS (b : Bool) (t : Fin 20) (c : Dev nD) : sProp 𝕄 := match b with
  | false => iprop(cred (tallyAt (rCell t c) () (amt t)) ∗ atPos ER (rCell t c) 0 (∅ : Finset (Fin 3)) 0)
  | true => iprop(semVal (rCell t c) 0 ∗ ldP c (piece t c) fullShare.left (land m c) ∗ Keep m t c)

def TT (P : Fin 20 → Fin 4) (c : Dev nD) : sProp 𝕄 := bigSep Finset.univ fun t => TS m (P t) t c
def RR (Q : Fin 20 → Bool) (c : Dev nD) : sProp 𝕄 := bigSep Finset.univ fun t => RS m (Q t) t c
/-- What device `c` still owes, whatever it has waited for. -/
def OW (c : Dev nD) (O : CellTallies nD τ sig Unit) : sProp 𝕄 := iprop(∃ W, owes (c : Thread nD τ) O W)

/-- Transfer `t` goes to phase `p`. -/
def mv (P : Fin 20 → Fin 4) (t : Fin 20) (p : Fin 4) : Fin 20 → Fin 4 := fun k => if k = t then p else P k
/-- The transfers that carry on what transfer `n` brought have their data. -/
def feed (P : Fin 20 → Fin 4) (n : ℕ) : Fin 20 → Fin 4 := fun k => if par k = n then 1 else P k
/-- Transfer `t` has landed. -/
def gotT (Q : Fin 20 → Bool) (t : Fin 20) : Fin 20 → Bool := fun k => if k = t then true else Q k

theorem TT_at (P : Fin 20 → Fin 4) (t : Fin 20) (c : Dev nD) : TT m P c = iprop(TS m (P t) t c ∗ bigSep (Finset.univ.erase t) fun k => TS m (P k) k c) := bigSep_univ_at _ t
theorem TT_mv (P : Fin 20 → Fin 4) (t : Fin 20) (p : Fin 4) (c : Dev nD) : TT m (mv P t p) c = iprop(TS m p t c ∗ bigSep (Finset.univ.erase t) fun k => TS m (P k) k c) := by
  rw [TT_at m _ t]
  have h1 : mv P t p t = p := if_pos rfl
  rw [h1]
  congr 1
  exact bigSep_congr fun k hk => by rw [show mv P t p k = P k from if_neg (Finset.ne_of_mem_erase hk)]
theorem RR_at (Q : Fin 20 → Bool) (t : Fin 20) (c : Dev nD) : RR m Q c = iprop(RS m (Q t) t c ∗ bigSep (Finset.univ.erase t) fun k => RS m (Q k) k c) := bigSep_univ_at _ t
theorem RR_got (Q : Fin 20 → Bool) (t : Fin 20) (c : Dev nD) : RR m (gotT Q t) c = iprop(RS m true t c ∗ bigSep (Finset.univ.erase t) fun k => RS m (Q k) k c) := by
  rw [RR_at m _ t]
  have h1 : gotT Q t t = true := if_pos rfl
  rw [h1]
  congr 1
  exact bigSep_congr fun k hk => by rw [show gotT Q t k = Q k from if_neg (Finset.ne_of_mem_erase hk)]

theorem TT_feed (P : Fin 20 → Fin 4) (n : ℕ) (c : Dev nD) (h : ∀ k, par k = n → P k = 0) :
    TT m (feed P n) c = iprop(TT m P c ∗ bigSep (Finset.univ.filter fun k => par k = n) fun k => Src m k c) := by
  unfold TT
  rw [bigSep_filter_split Finset.univ (fun k => par k = n), bigSep_filter_split Finset.univ (fun k => par k = n) (Φ := fun t => TS m (P t) t c)]
  rw [bigSep_congr (Φ := fun t => TS m (feed P n t) t c) (Ψ := fun t => iprop(TS m (P t) t c ∗ Src m t c)) (s := Finset.univ.filter fun k => par k = n) fun k hk => by
      have hk := (Finset.mem_filter.mp hk).2
      rw [show feed P n k = 1 from if_pos hk, h k hk]; rfl,
    bigSep_congr (Φ := fun t => TS m (feed P n t) t c) (Ψ := fun t => TS m (P t) t c) (s := Finset.univ.filter fun k => ¬ par k = n) fun k hk => by
      rw [show feed P n k = P k from if_neg (Finset.mem_filter.mp hk).2],
    bigSep_sep']
  refine eq_of_bi ⟨?_, ?_⟩
  · change iprop((_ ∗ _) ∗ _) ⊢ iprop((_ ∗ _) ∗ _)
    iintro ⟨⟨H1, H2⟩, H3⟩; iframe
  · change iprop((_ ∗ _) ∗ _) ⊢ iprop((_ ∗ _) ∗ _)
    iintro ⟨⟨H1, H3⟩, H2⟩; iframe

/-! ## The operations -/

section Ops

variable {α : Type} {Kt : α → sProp (MT nD τ sig Unit (Elt F) ℕ UU ℕ)} {k : PUnit → Prog (TpuEff nD τ sig (Elt F) Λ₀ .tc) α} (c : Dev nD)

/-- The wait for a transfer to land. -/
theorem step_recv (t : Fin 20) (P : Fin 20 → Fin 4) (Q : Fin 20 → Bool) (l : List (Fin 20)) (hQ : Q t = false) (hP : ∀ k, par k = t.val → P k = 0)
    (hl : ∀ t' ∈ l, lvS (.dma (rS t)) < lvS (.dma (rS t'))) {sm : DmaSem sig} (hs : sm = rS t)
    {sp sp' : Space} {s : Shape} {e : EltTy} {src : Memref sig .tc sp s e} {dst : Memref sig .tc sp' s e} (hd : dst.view.dmaCredit = amt t) {h1 h2} :
    iprop(records m K ∗ TT m P c ∗ RR m Q c ∗ OW c (owe c l))
      ⊢ iprop(((TT m (feed P t.val) c ∗ RR m (gotT Q t) c ∗ OW c (owe c l)) -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 sm src dst h1 h2) k) Kt) := by
  subst hs
  rw [RR_at m Q t, RR_got, hQ, TT_feed m P t.val c hP]
  unfold OW
  iintro ⟨#HI, HT, ⟨HR, HRs⟩, ⟨%W, HO⟩⟩ Hk
  unfold RS
  icases HR with ⟨Hc, Ha⟩
  ihave #Hr := (records_at m K c (ixR t) _ (csem_r t)) $$ HI
  icases Hr with ⟨HC, -⟩
  iapply (Rounds.wp_wait_rest_token 𝒱₀ ER (Rd m) (c : Thread nD τ) none (κ := K (c, ixR t))
      (wpE_waitDma2_eq 𝒱₀ (c : Thread nD τ) none Set.univ) (Set.mem_univ _) () (O := owe c l) (W := W) (R := 0) (m := 0) (T := ∅)
      (by rw [Nat.zero_add, expect_recv]; exact hd)) $$ [Hc HO Ha]
  · isplitr; · iexact HC
    isplitl [Hc]; · rw [hd]; iexact Hc
    isplitl [HO]; · iexact HO
    isplitr; · iapply (mayWait_owe c (.dma (rS t)) l hl); iapply (records_lev m K); iexact HI
    iexact Ha
  iintro ⟨HO, Ha, -, Hp⟩
  ihave Hp := (Entails.of_eq ((rest_recv m c t).trans (Got_split m t c))) $$ Hp
  icases Hp with ⟨HL, HK, HS⟩
  imod (Rounds.cell_close ER (Rd m) (Set.mem_univ (K (c, ixR t))) (fun h => h) (R := 0 + 1) (duties_later m (rCell t c))) $$ [Ha] with Hz
  · isplitr; · iexact HC
    iexact Ha
  iapply Hk
  isplitl [HT HS]
  · isplitl [HT]; · iexact HT
    unfold kids; iexact HS
  isplitr [HO]
  · isplitr [HRs]
    · isplitl [Hz]; · iexact Hz
      isplitl [HL] <;> iassumption
    iexact HRs
  iexists _; iexact HO

theorem lv_send : ∀ t : Fin 20, lvS (.dma (sS t)) = 0 := by decide +kernel

/-- The wait for a transfer's data to be back. -/
theorem step_back (t : Fin 20) (P : Fin 20 → Fin 4) (l : List (Fin 20)) (hP : P t = 2) {sm : DmaSem sig} (hs : sm = sS t)
    {sp sp' : Space} {s : Shape} {e : EltTy} {src : Memref sig .tc sp s e} {dst : Memref sig .tc sp' s e} (hd : dst.view.dmaCredit = amt t) {h1 h2} :
    iprop(records m K ∗ TT m P c ∗ OW c (owe c l))
      ⊢ iprop(((TT m (mv P t 3) c ∗ OW c (owe c l)) -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 sm src dst h1 h2) k) Kt) := by
  subst hs
  rw [TT_at m P t, TT_mv, hP]
  unfold OW
  iintro ⟨#HI, ⟨HT, HTs⟩, ⟨%W, HO⟩⟩ Hk
  unfold TS
  icases HT with ⟨Hc, Ha⟩
  ihave #Hr := (records_at m K c (ixS t) _ (csem_s t)) $$ HI
  icases Hr with ⟨HC, -⟩
  iapply (Rounds.wp_wait_rest_token 𝒱₀ ER (Rd m) (c : Thread nD τ) none (κ := K (c, ixS t))
      (wpE_waitDma2_eq 𝒱₀ (c : Thread nD τ) none Set.univ) (Set.mem_univ _) () (O := owe c l) (W := W) (R := 0) (m := 0) (T := ∅)
      (by rw [Nat.zero_add, expect_send]; exact hd)) $$ [Hc HO Ha]
  · isplitr; · iexact HC
    isplitl [Hc]; · rw [hd]; iexact Hc
    isplitl [HO]; · iexact HO
    isplitr
    · iapply (mayWait_owe c (.dma (sS t)) l fun t' _ => lt_of_eq_of_lt (lv_send t) (lv_recv_pos t'))
      iapply (records_lev m K); iexact HI
    iexact Ha
  iintro ⟨HO, Ha, -, Hp⟩
  ihave Hp := (Entails.of_eq (rest_send m c t)) $$ Hp
  imod (Rounds.cell_close ER (Rd m) (Set.mem_univ (K (c, ixS t))) (fun h => h) (R := 0 + 1) (duties_later m (sCell t c))) $$ [Ha] with Hz
  · isplitr; · iexact HC
    iexact Ha
  iapply Hk
  isplitr [HO]
  · isplitr [HTs]
    · isplitl [Hz] <;> iassumption
    iexact HTs
  iexists _; iexact HO

/-- The issue of a transfer that carries on landed data. -/
theorem step_fwd (t : Fin 20) (h4 : 4 ≤ t.val) (P : Fin 20 → Fin 4) (l : List (Fin 20)) (hP : P t = 1) {d : Dev nD} (hd : d = peer t c) (n : ℕ) {o inb o' inb'}
    (ho : o = ![lo t (peer t c), 0]) (ho' : o' = ![lo t (peer t c), 0]) (hn : n = len t) {sm sm' : DmaSem sig} (hs : sm = sS t) (hs' : sm' = rS t)
    {hsc : (ldV n o inb : Memref sig (Dev.tc d : Thread nD τ).2.kind .vmem ⟨2, ![n, 1024]⟩ .f32).view.ref.isScScratch = false} {h1 h2 h3} :
    iprop(records m K ∗ TT m P c ∗ OW c (owe c (t :: l)))
      ⊢ iprop(((TT m (mv P t 2) c ∗ OW c (owe c l)) -∗ wp frame (wpE (defs₀ (F := F)) 𝒱₀ (c : Thread nD τ) none) Set.univ (k ⟨⟩) Kt)
          -∗ wp frame (wpE (defs₀ (F := F)) 𝒱₀ (c : Thread nD τ) none) Set.univ
            (.op (.enqueueDma (ldV n o' inb') (.remote (Dev.tc d : Thread nD τ) (ldV n o inb) (.dma sm) hsc) (.dma sm') h1 h2 h3) k) Kt) := by
  subst hs hs' hd
  rw [TT_at m P t, TT_mv, hP]
  unfold OW
  iintro ⟨#HI, ⟨HT, HTs⟩, ⟨%W, HO⟩⟩ Hk
  unfold TS Base zone
  icases HT with ⟨⟨Ht1, Ht2, Ha, %fd, Hz⟩, HS⟩
  ihave #Hr := (records_at m K c (ixS t) _ (csem_s t)) $$ HI
  ihave #Hr' := (records_at m K (peer t c) (ixR t) _ (csem_r t)) $$ HI
  icases Hr with ⟨HC, HR⟩
  icases Hr' with ⟨HC', HR'⟩
  have hset := ldV_set n o inb _ ho
  have hset' := ldV_set n o' inb' _ ho'
  have hsrc : Src m t c = ((ldV n o' inb').view.loc (c : Thread nD τ) ↦[(ldV n o' inb').view.set]{shr t} land m c : sProp 𝕄) := by
    unfold Src ldP piece; rw [dif_neg (by omega), hset', ← hn]
  have hdst : ldP (peer t c) (piece t (peer t c)) fullShare fd
      = ((ldV n o inb).view.loc (peer t c : Thread nD τ) ↦[(ldV n o inb).view.set]{fullShare} fd : sProp 𝕄) := by
    unfold ldP piece; rw [hset, ← hn]
  iapply (Rounds.wp_send_pointsTo 𝒱₀ ER (Rd m) (c : Thread nD τ) none (κ₁ := K (c, ixS t)) (κ₂ := K (peer t c, ixR t))
    (r₁ := 0) (r₂ := 0) (d₁ := 0) (d₂ := 0) (fd := fd) (fs := land m c) (q := shr t)
    (mem_duties_dma m c _) (mem_duties_dma m (peer t c) _) () () (amt t)
    (by unfold len at hn; unfold amt; by_cases h : t.val < 12
        · rw [if_pos h] at hn; subst hn; rw [if_pos h]
        · rw [if_neg h] at hn; subst hn; rw [if_neg h])
    (amount_send m c t 0) (amount_recv m (peer t c) t 0) (owe c l) rfl (W := W)
    (by rw [payload_send]; exact Entails.of_eq hsrc.symm)
    (by rw [payload_recv]; exact Entails.of_eq (fwd_pay m t h4 c n o inb o' inb' ho ho' hn fd))) $$ [Ht1 Ht2 HS Hz HO]
  · isplitr; · iexact HC
    isplitr; · iexact HC'
    isplitl [HS]; · ihave HS := (Entails.of_eq hsrc) $$ HS; iexact HS
    isplitl [Hz]; · ihave Hz := (Entails.of_eq hdst) $$ Hz; iexact Hz
    isplitl [HO]; · iexact HO
    isplitl [Ht1]; · iexact Ht1
    isplitr; · iexact HR
    isplitl [Ht2]; · iexact Ht2
    iexact HR'
  iintro ⟨Hc, HO⟩
  iapply Hk
  isplitr [HO]
  · isplitr [HTs]
    · isplitl [Hc] <;> iassumption
    iexact HTs
  iexists _; iexact HO

set_option maxHeartbeats 1000000 in
/-- The issue of a transfer that carries `x`. -/
theorem step_y (r : Fin 4) (P : Fin 20 → Fin 4) (l : List (Fin 20)) (hP : P ⟨r.val, by omega⟩ = 1) {d : Dev nD} (hd : d = yp c) {o inb o' inb' hq}
    (ho : o = ![lo ⟨r.val, by omega⟩ (yp c), 0]) (ho' : o' = k0_off3 c (BitVec.ofNat 32 (256 * r.val))) {sm sm' : DmaSem sig} (hs : sm = sS ⟨r.val, by omega⟩) (hs' : sm' = rS ⟨r.val, by omega⟩)
    {hsc : (ldV 256 o inb : Memref sig (Dev.tc d : Thread nD τ).2.kind .vmem ⟨2, ![256, 1024]⟩ .f32).view.ref.isScScratch = false} {h1 h2 h3} :
    iprop(records m K ∗ TT m P c ∗ OW c (owe c (⟨r.val, by omega⟩ :: l)))
      ⊢ iprop(((TT m (mv P ⟨r.val, by omega⟩ 2) c ∗ OW c (owe c l)) -∗ wp frame (wpE (defs₀ (F := F)) 𝒱₀ (c : Thread nD τ) none) Set.univ (k ⟨⟩) Kt)
          -∗ wp frame (wpE (defs₀ (F := F)) 𝒱₀ (c : Thread nD τ) none) Set.univ
            (.op (.enqueueDma (xV 256 1024 o' inb' hq) (.remote (Dev.tc d : Thread nD τ) (ldV 256 o inb) (.dma sm) hsc) (.dma sm') h1 h2 h3) k) Kt) := by
  have hr := r.isLt
  obtain ⟨t, ht⟩ : ∃ t : Fin 20, t = ⟨r.val, by omega⟩ := ⟨_, rfl⟩
  have htv : t.val = r.val := by rw [ht]
  have hpr : peer t c = yp c := by unfold peer; exact if_pos (by omega)
  rw [← ht] at hP ho hs hs' ⊢
  subst hs hs' hd ho'
  rw [TT_at m P t, TT_mv, hP]
  unfold OW
  iintro ⟨#HI, ⟨HT, HTs⟩, ⟨%W, HO⟩⟩ Hk
  have howe : owe c (t :: l) = owe c l + tallyAt (rCell t (yp c)) () (amt t) := by show _ + tallyAt (rCell t (peer t c)) () (amt t) = _; rw [hpr]
  rw [howe]
  unfold TS Base zone
  rw [hpr]
  icases HT with ⟨⟨Ht1, Ht2, Ha, %fd, Hz⟩, HS⟩
  ihave #Hr := (records_at m K c (ixS t) _ (csem_s t)) $$ HI
  ihave #Hr' := (records_at m K (yp c) (ixR t) _ (csem_r t)) $$ HI
  icases Hr with ⟨HC, HR⟩
  icases Hr' with ⟨HC', HR'⟩
  have hset := ldV_set 256 o inb _ ho
  have hsrc : Src m t c = ((xV 256 1024 (k0_off3 c (BitVec.ofNat 32 (256 * r.val))) inb' hq).view.loc (c : Thread nD τ)
      ↦[(xV 256 1024 (k0_off3 c (BitVec.ofNat 32 (256 * r.val))) inb' hq).view.set]{xsh r} xAt m c : sProp 𝕄) := by
    rw [xV_set]
    subst ht
    unfold Src; rw [dif_pos (show (⟨r.val, _⟩ : Fin 20).val < 4 from hr)]
    rfl
  have hdst : ldP (yp c) (piece t (yp c)) fullShare fd
      = ((ldV 256 o inb).view.loc (yp c : Thread nD τ) ↦[(ldV 256 o inb).view.set]{fullShare} fd : sProp 𝕄) := by
    unfold ldP piece; rw [hset, show len t = 256 by unfold len; exact if_pos (by omega)]
  iapply (Rounds.wp_send_pointsTo 𝒱₀ ER (Rd m) (c : Thread nD τ) none (κ₁ := K (c, ixS t)) (κ₂ := K (yp c, ixR t))
    (r₁ := 0) (r₂ := 0) (d₁ := 0) (d₂ := 0) (fd := fd) (fs := xAt m c) (q := xsh r)
    (mem_duties_dma m c _) (mem_duties_dma m (yp c) _) () () (amt t)
    (by unfold amt; rw [if_pos (by omega)])
    (amount_send m c t 0) (amount_recv m (yp c) t 0) (owe c l) rfl (W := W)
    (by rw [payload_send]; exact Entails.of_eq hsrc.symm)
    (by rw [payload_recv]; subst ht; exact Entails.of_eq (y_pay m r c o inb inb' hq ho fd))) $$ [Ht1 Ht2 HS Hz HO]
  · isplitr; · iexact HC
    isplitr; · iexact HC'
    isplitl [HS]; · ihave HS := (Entails.of_eq hsrc) $$ HS; iexact HS
    isplitl [Hz]; · ihave Hz := (Entails.of_eq hdst) $$ Hz; iexact Hz
    isplitl [HO]; · iexact HO
    isplitl [Ht1]; · iexact Ht1
    isplitr; · iexact HR
    isplitl [Ht2]; · iexact Ht2
    iexact HR'
  iintro ⟨Hc, HO⟩
  iapply Hk
  isplitr [HO]
  · isplitr [HTs]
    · isplitl [Hc] <;> iassumption
    iexact HTs
  iexists _; iexact HO

/-- What device `c` holds for the local copy: before, in flight, done. -/
def LS (p : Fin 3) (c : Dev nD) : sProp 𝕄 := match p with
  | 0 => iprop((∃ f, stP c f) ∗ xP m c (xHalf c) fullShare.left ∗ dutyTok ER (lCell c) 0 (0 : Fin 3) ∗ atPos ER (lCell c) 0 (∅ : Finset (Fin 3)) 0)
  | 1 => iprop(cred (tallyAt (lCell c) () amtL) ∗ atPos ER (lCell c) 0 (∅ : Finset (Fin 3)) 0)
  | 2 => iprop(stP c (own m c) ∗ xP m c (xHalf c) fullShare.left ∗ semVal (lCell c) 0)

/-- The issue of the local copy. -/
theorem step_copy {o inb hq} (ho : o = k0_off1 c) {sm : DmaSem sig} (hs : sm = lS) {h1 h2 h3} :
    iprop(records m K ∗ LS m 0 c)
      ⊢ iprop((LS m 1 c -∗ wp frame (wpE (defs₀ (F := F)) 𝒱₀ (c : Thread nD τ) none) Set.univ (k ⟨⟩) Kt)
          -∗ wp frame (wpE (defs₀ (F := F)) 𝒱₀ (c : Thread nD τ) none) Set.univ
            (.op (.enqueueDma (xV 4096 1024 o inb hq) (.here (Memref.whole cc0_stg0_0 : Memref sig .tc .vmem S4096x1024 .f32)) (.dma sm) h1 h2 h3) k) Kt) := by
  subst hs ho
  iintro ⟨#HI, HL⟩ Hk
  unfold LS
  icases HL with ⟨⟨%fd, Hst⟩, Hx, Ht, Ha⟩
  ihave #Hr := (records_at m K c 1 _ csem_loc) $$ HI
  icases Hr with ⟨HC, HR⟩
  have hsrc : xP m c (xHalf c) fullShare.left = ((xV 4096 1024 (k0_off1 c) inb hq).view.loc (c : Thread nD τ)
      ↦[(xV 4096 1024 (k0_off1 c) inb hq).view.set]{fullShare.left} xAt m c : sProp 𝕄) := by
    rw [xV_set]; rfl
  have hdst : ∀ f, stP c f = ((Memref.whole cc0_stg0_0 : Memref sig .tc .vmem S4096x1024 .f32).view.loc (c : Thread nD τ)
      ↦[(Memref.whole cc0_stg0_0 : Memref sig .tc .vmem S4096x1024 .f32).view.set]{fullShare} f : sProp 𝕄) := by
    intro f; unfold stP; rw [show (Memref.whole cc0_stg0_0 : Memref sig .tc .vmem S4096x1024 .f32).view.set = Finset.univ from View.set_whole _]
  iapply (Rounds.wp_copy_pointsTo 𝒱₀ ER (Rd m) (c : Thread nD τ) none (κ := K (c, 1)) (r := 0) (d := 0) (fd := fd) (fs := xAt m c) (q := fullShare.left)
    (mem_duties_dma m c _) () amtL rfl (amount_loc m c 0)
    (by rw [payload_loc]; unfold locPay; rw [hsrc, hdst, loc_pay])) $$ [Hst Hx Ht]
  · isplitr; · iexact HC
    isplitl [Hx]; · ihave Hx := (Entails.of_eq hsrc) $$ Hx; iexact Hx
    isplitl [Hst]; · ihave Hst := (Entails.of_eq (hdst fd)) $$ Hst; iexact Hst
    isplitl [Ht]; · iexact Ht
    iexact HR
  iintro Hc
  iapply Hk
  isplitl [Hc] <;> iassumption

/-- The wait for the local copy. -/
theorem step_local (l : List (Fin 20)) {sm : DmaSem sig} (hs : sm = lS)
    {sp sp' : Space} {s : Shape} {e : EltTy} {src : Memref sig .tc sp s e} {dst : Memref sig .tc sp' s e} (hd : dst.view.dmaCredit = amtL) {h1 h2} :
    iprop(records m K ∗ LS m 1 c ∗ OW c (owe c l))
      ⊢ iprop(((LS m 2 c ∗ OW c (owe c l)) -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 sm src dst h1 h2) k) Kt) := by
  subst hs
  unfold OW LS
  iintro ⟨#HI, ⟨Hc, Ha⟩, ⟨%W, HO⟩⟩ Hk
  ihave #Hr := (records_at m K c 1 _ csem_loc) $$ HI
  icases Hr with ⟨HC, -⟩
  iapply (Rounds.wp_wait_rest_token 𝒱₀ ER (Rd m) (c : Thread nD τ) none (κ := K (c, 1))
      (wpE_waitDma2_eq 𝒱₀ (c : Thread nD τ) none Set.univ) (Set.mem_univ _) () (O := owe c l) (W := W) (R := 0) (m := 0) (T := ∅)
      (by rw [Nat.zero_add, expect_loc]; exact hd)) $$ [Hc HO Ha]
  · isplitr; · iexact HC
    isplitl [Hc]; · rw [hd]; iexact Hc
    isplitl [HO]; · iexact HO
    isplitr
    · iapply (mayWait_owe c (.dma lS) l fun t' _ => lt_of_eq_of_lt (show lvS (.dma lS) = 0 by decide +kernel) (lv_recv_pos t'))
      iapply (records_lev m K); iexact HI
    iexact Ha
  iintro ⟨HO, Ha, -, Hp⟩
  ihave Hp := (Entails.of_eq (rest_loc m c)) $$ Hp
  unfold locPay
  icases Hp with ⟨Hst, Hx⟩
  imod (Rounds.cell_close ER (Rd m) (Set.mem_univ (K (c, 1))) (fun h => h) (R := 0 + 1) (duties_later m (lCell c))) $$ [Ha] with Hz
  · isplitr; · iexact HC
    iexact Ha
  iapply Hk
  isplitr [HO]
  · isplitl [Hst]; · iexact Hst
    isplitl [Hx] <;> iassumption
  iexists _; iexact HO

/-- The part of device `c`'s landing buffer its neighbour along `d` writes. -/
def mine (d : Fin 3) (c : Dev nD) : sProp 𝕄 := bigSep (Finset.univ.filter fun t => grp t = d) fun t => iprop(∃ f, ldP (F := F) c (piece t c) fullShare f)

omit [FloatOps F] in
theorem mine_eq (d : Fin 3) (c : Dev nD) : mine (F := F) d c = barPay d (nb d c) := by
  unfold mine barPay
  refine bigSep_congr fun t ht => ?_
  have ht := (Finset.mem_filter.mp ht).2
  unfold zone
  rw [peer_nb, ht, nb_nb]

/-- The signal to the neighbour along `d`, which hands it the part of the landing buffer it writes. -/
theorem step_signal (d : Fin 3) (l : List (Fin 20)) (ds : List (Fin 3)) {n : Dev nD} (hn : n = nb d c) {s : Sem sig} (hs : s = bS) {a : ℕ} (ha : a = 1) :
    iprop(records m K ∗ dutyTok ER (bCell (nb d c)) 0 d ∗ mine d c ∗ OW c (oweB c l (d :: ds)))
      ⊢ iprop((OW c (oweB c l ds) -∗ wp frame (wpE (defs₀ (F := F)) 𝒱₀ (c : Thread nD τ) none) Set.univ (k ⟨⟩) Kt)
          -∗ wp frame (wpE (defs₀ (F := F)) 𝒱₀ (c : Thread nD τ) none) Set.univ (.op (.semSignal (n : Thread nD τ) s a) k) Kt) := by
  subst hn hs ha
  rw [mine_eq]
  unfold OW
  iintro ⟨#HI, Ht, Hm, ⟨%W, HO⟩⟩ Hk
  ihave #Hr := (records_at m K (nb d c) 0 _ csem_bar) $$ HI
  icases Hr with ⟨HC, HR⟩
  iapply (Rounds.wp_signal 𝒱₀ ER (Rd m) (c : Thread nD τ) none (dst := (nb d c : Thread nD τ)) (κ := K (nb d c, 0)) (r := 0)
      (d := d) (by rw [duties_bar]; exact Finset.mem_univ _) rfl () (oweB c l ds) rfl (W := W))
    $$ [HO Ht Hm]
  · isplitr; · iexact HC
    isplitl [HO]; · iexact HO
    isplitl [Ht]; · iexact Ht
    isplitl [Hm]; · rw [payload_bar]; iexact Hm
    iexact HR
  iintro HO
  iapply Hk
  iexists _; iexact HO

/-- The barrier: all three neighbours have handed over where this device's transfers land. -/
theorem step_barrier (l : List (Fin 20)) {s : Sem sig} (hs : s = bS) {a : ℕ} (ha : a = 3) :
    iprop(records m K ∗ cred (tallyAt (bCell c) () 3) ∗ atPos ER (bCell c) 0 (∅ : Finset (Fin 3)) 0 ∗ OW c (owe c l))
      ⊢ iprop(((semVal (bCell c) 0 ∗ (bigSep Finset.univ fun t => zone t c) ∗ OW c (owe c l)) -∗ wp frame (wpE (defs₀ (F := F)) 𝒱₀ (c : Thread nD τ) none) Set.univ (k ⟨⟩) Kt)
          -∗ wp frame (wpE (defs₀ (F := F)) 𝒱₀ (c : Thread nD τ) none) Set.univ (.op (.semWait s a) k) Kt) := by
  subst hs ha
  unfold OW
  iintro ⟨#HI, Hc, Ha, ⟨%W, HO⟩⟩ Hk
  ihave #Hr := (records_at m K c 0 _ csem_bar) $$ HI
  icases Hr with ⟨HC, -⟩
  iapply (Rounds.wp_wait_rest_token 𝒱₀ ER (Rd m) (c : Thread nD τ) none (κ := K (c, 0))
      (wpE_semWait_eq 𝒱₀ (c : Thread nD τ) none Set.univ) (Set.mem_univ _) () (O := owe c l) (W := W) (R := 0) (m := 0) (T := ∅)
      (by rw [expect_bar])) $$ [Hc HO Ha]
  · isplitr; · iexact HC
    isplitl [Hc]; · iexact Hc
    isplitl [HO]; · iexact HO
    isplitr
    · iapply (mayWait_owe c (.reg bS) l fun t' _ => (by decide +kernel : ∀ t : Fin 20, lvS (.reg bS) < lvS (.dma (rS t))) t')
      iapply (records_lev m K); iexact HI
    iexact Ha
  iintro ⟨HO, Ha, -, Hp⟩
  ihave Hp := (Entails.of_eq (rest_bar m c)) $$ Hp
  imod (Rounds.cell_close ER (Rd m) (Set.mem_univ (K (c, 0))) (fun h => h) (R := 0 + 1) (duties_later m (bCell c))) $$ [Ha] with Hz
  · isplitr; · iexact HC
    iexact Ha
  iapply Hk
  isplitl [Hz]; · iexact Hz
  isplitl [Hp]; · iexact Hp
  iexists _; iexact HO

end Ops

end Cert.KernelIdeal.Mesh

end
-- ==== Proof.KernelIdeal.Ops.lean ====
/-
The order in which a device issues and awaits its transfers, what it holds after each of these steps, and each operation
as a step from what is held before it to what is held after it.
-/
module

public import proofs.«01_k».proof.Proof.KernelIdeal.Steps

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 42 → ℕ)

/-! ## The order of the steps -/

/-- A step: a transfer is issued, one lands, or one's data is back. -/
inductive Ev where
  | send (t : Fin 20)
  | recv (t : Fin 20)
  | back (t : Fin 20)

/-- The steps after the barrier, in program order. -/
def evs : List Ev :=
  [.send 0, .send 1, .send 2, .send 3,
   .recv 0, .send 4, .send 8, .recv 1, .send 5, .send 9, .recv 2, .send 6, .send 10, .recv 3, .send 7, .send 11,
   .recv 4, .send 16, .recv 8, .send 12, .recv 5, .send 17, .recv 9, .send 13,
   .recv 6, .send 18, .recv 10, .send 14, .recv 7, .send 19, .recv 11, .send 15,
   .recv 12, .recv 16, .recv 13, .recv 17, .recv 14, .recv 18, .recv 15, .recv 19,
   .back 0, .back 4, .back 8, .back 16, .back 12, .back 1, .back 5, .back 9, .back 17, .back 13,
   .back 2, .back 6, .back 10, .back 18, .back 14, .back 3, .back 7, .back 11, .back 19, .back 15]

/-- The phases of the transfers out of a device after `n` steps. -/
def Pn : ℕ → Fin 20 → Fin 4
  | 0 => feed (fun _ => 0) 100
  | n + 1 => match evs[n]? with
    | some (.send t) => mv (Pn n) t 2
    | some (.recv t) => feed (Pn n) t.val
    | some (.back t) => mv (Pn n) t 3
    | none => Pn n

/-- Which transfers into a device have landed after `n` steps. -/
def Qn : ℕ → Fin 20 → Bool
  | 0 => fun _ => false
  | n + 1 => match evs[n]? with
    | some (.recv t) => gotT (Qn n) t
    | _ => Qn n

/-- The transfers a device has still to issue after `n` steps. -/
def ln : ℕ → List (Fin 20)
  | 0 => order
  | n + 1 => match evs[n]? with
    | some (.send _) => (ln n).tail
    | _ => ln n

/-- Each step finds the transfer it is about in the phase it needs. -/
def fits (n : ℕ) : Bool := match evs[n]? with
  | some (.send t) => decide (Pn n t = 1 ∧ ln n = t :: (ln n).tail)
  | some (.recv t) => decide (Qn n t = false ∧ (∀ k, par k = t.val → Pn n k = 0) ∧ ∀ t' ∈ ln n, lvS (.dma (rS t)) < lvS (.dma (rS t')))
  | some (.back t) => decide (Pn n t = 2)
  | none => true

theorem fits_all : ∀ n : Fin 60, fits n.val = true := by decide +kernel

theorem lt_of_ev {n : ℕ} {e : Ev} (he : evs[n]? = some e) : n < 60 := (List.getElem?_eq_some_iff.mp he).1
theorem fits_at {n : ℕ} {e : Ev} (he : evs[n]? = some e) : fits n = true := fits_all ⟨n, lt_of_ev he⟩

/-- What a device holds for its transfers after `n` steps. -/
def St (c : Dev nD) (n : ℕ) : sProp 𝕄 := iprop(TT m (Pn n) c ∗ RR m (Qn n) c ∗ OW c (owe c (ln n)))

/-! ## The operations as steps -/

abbrev wpc (c : Dev nD) {α : Type} (p : Prog (TpuEff nD τ sig (Elt F) Λ₀ .tc) α) (Kt : α → sProp (MT nD τ sig Unit (Elt F) ℕ UU ℕ)) : sProp (MT nD τ sig Unit (Elt F) ℕ UU ℕ) :=
  wp frame (wpE (defs₀ (F := F)) 𝒱₀ (c : Thread nD τ) none) Set.univ p Kt

section Ops

variable {α : Type} {Kt : α → sProp (MT nD τ sig Unit (Elt F) ℕ UU ℕ)} {k : PUnit → Prog (TpuEff nD τ sig (Elt F) Λ₀ .tc) α} (c : Dev nD)
  {R : sProp (MT nD τ sig Unit (Elt F) ℕ UU ℕ)}

theorem op_recv (n : ℕ) (t : Fin 20) (he : evs[n]? = some (.recv t)) {sm : DmaSem sig} (hs : sm = rS t)
    {sp sp' : Space} {s : Shape} {e : EltTy} {src : Memref sig .tc sp s e} {dst : Memref sig .tc sp' s e} (hd : dst.view.dmaCredit = amt t) {h1 h2}
    (hk : iprop(records m K ∗ St m c (n + 1) ∗ R) ⊢ wpc c (k ⟨⟩) Kt) :
    iprop(records m K ∗ St m c n ∗ R) ⊢ wpc c (.op (.waitDma2 sm src dst h1 h2) k) Kt := by
  have hf := fits_at he
  unfold fits at hf; rw [he] at hf
  have hf := of_decide_eq_true hf
  have hS : St m c (n + 1) = iprop(TT m (feed (Pn n) t.val) c ∗ RR m (gotT (Qn n) t) c ∗ OW c (owe c (ln n))) := by
    unfold St; rw [show Pn (n + 1) = feed (Pn n) t.val by simp only [Pn, he], show Qn (n + 1) = gotT (Qn n) t by simp only [Qn, he], show ln (n + 1) = ln n by simp only [ln, he]]
  rw [hS] at hk
  unfold St
  iintro ⟨#HI, ⟨HT, HR, HO⟩, H⟩
  iapply (step_recv m K c t (Pn n) (Qn n) (ln n) hf.1 hf.2.1 hf.2.2 hs hd) $$ [HT HR HO]
  · isplitr; · iexact HI
    isplitl [HT]; · iexact HT
    isplitl [HR] <;> iassumption
  iintro HS
  iapply hk
  isplitr; · iexact HI
  isplitl [HS] <;> iassumption

theorem op_back (n : ℕ) (t : Fin 20) (he : evs[n]? = some (.back t)) {sm : DmaSem sig} (hs : sm = sS t)
    {sp sp' : Space} {s : Shape} {e : EltTy} {src : Memref sig .tc sp s e} {dst : Memref sig .tc sp' s e} (hd : dst.view.dmaCredit = amt t) {h1 h2}
    (hk : iprop(records m K ∗ St m c (n + 1) ∗ R) ⊢ wpc c (k ⟨⟩) Kt) :
    iprop(records m K ∗ St m c n ∗ R) ⊢ wpc c (.op (.waitDma2 sm src dst h1 h2) k) Kt := by
  have hf := fits_at he
  unfold fits at hf; rw [he] at hf
  have hf := of_decide_eq_true hf
  have hS : St m c (n + 1) = iprop(TT m (mv (Pn n) t 3) c ∗ RR m (Qn n) c ∗ OW c (owe c (ln n))) := by
    unfold St; rw [show Pn (n + 1) = mv (Pn n) t 3 by simp only [Pn, he], show Qn (n + 1) = Qn n by simp only [Qn, he], show ln (n + 1) = ln n by simp only [ln, he]]
  rw [hS] at hk
  unfold St
  iintro ⟨#HI, ⟨HT, HR, HO⟩, H⟩
  iapply (step_back m K c t (Pn n) (ln n) hf hs hd) $$ [HT HO]
  · isplitr; · iexact HI
    isplitl [HT] <;> iassumption
  iintro ⟨HT, HO⟩
  iapply hk
  isplitr; · iexact HI
  isplitr [H]
  · isplitl [HT]; · iexact HT
    isplitl [HR] <;> iassumption
  iexact H

theorem op_fwd (n : ℕ) (t : Fin 20) (he : evs[n]? = some (.send t)) (h4 : 4 ≤ t.val) (w : ℕ) {d : Dev nD} {o inb o' inb'} {sm sm' : DmaSem sig}
    {hsc : (ldV w o inb : Memref sig (Dev.tc d : Thread nD τ).2.kind .vmem ⟨2, ![w, 1024]⟩ .f32).view.ref.isScScratch = false} {h1 h2 h3}
    (hw : w = len t) (hd : d = peer t c) (ho : o = ![lo t (peer t c), 0]) (ho' : o' = ![lo t (peer t c), 0]) (hs : sm = sS t) (hs' : sm' = rS t)
    (hk : iprop(records m K ∗ St m c (n + 1) ∗ R) ⊢ wpc c (k ⟨⟩) Kt) :
    iprop(records m K ∗ St m c n ∗ R)
      ⊢ wpc c (.op (.enqueueDma (ldV w o' inb') (.remote (Dev.tc d : Thread nD τ) (ldV w o inb) (.dma sm) hsc) (.dma sm') h1 h2 h3) k) Kt := by
  have hf := fits_at he
  unfold fits at hf; rw [he] at hf
  have hf := of_decide_eq_true hf
  have hS : St m c (n + 1) = iprop(TT m (mv (Pn n) t 2) c ∗ RR m (Qn n) c ∗ OW c (owe c (ln n).tail)) := by
    unfold St; rw [show Pn (n + 1) = mv (Pn n) t 2 by simp only [Pn, he], show Qn (n + 1) = Qn n by simp only [Qn, he], show ln (n + 1) = (ln n).tail by simp only [ln, he]]
  rw [hS] at hk
  unfold St
  rw [hf.2]
  iintro ⟨#HI, ⟨HT, HR, HO⟩, H⟩
  iapply (step_fwd m K c t h4 (Pn n) (ln n).tail hf.1 hd w ho ho' hw hs hs') $$ [HT HO]
  · isplitr; · iexact HI
    isplitl [HT] <;> iassumption
  iintro ⟨HT, HO⟩
  iapply hk
  isplitr; · iexact HI
  isplitr [H]
  · isplitl [HT]; · iexact HT
    isplitl [HR] <;> iassumption
  iexact H

theorem op_y (n : ℕ) (r : Fin 4) (he : evs[n]? = some (.send ⟨r.val, by omega⟩)) {d : Dev nD} {o inb o' inb' hq} {sm sm' : DmaSem sig}
    {hsc : (ldV 256 o inb : Memref sig (Dev.tc d : Thread nD τ).2.kind .vmem ⟨2, ![256, 1024]⟩ .f32).view.ref.isScScratch = false} {h1 h2 h3}
    (hd : d = yp c) (ho : o = ![lo ⟨r.val, by omega⟩ (yp c), 0]) (ho' : o' = k0_off3 c (BitVec.ofNat 32 (256 * r.val)))
    (hs : sm = sS ⟨r.val, by omega⟩) (hs' : sm' = rS ⟨r.val, by omega⟩)
    (hk : iprop(records m K ∗ St m c (n + 1) ∗ R) ⊢ wpc c (k ⟨⟩) Kt) :
    iprop(records m K ∗ St m c n ∗ R)
      ⊢ wpc c (.op (.enqueueDma (xV 256 1024 o' inb' hq) (.remote (Dev.tc d : Thread nD τ) (ldV 256 o inb) (.dma sm) hsc) (.dma sm') h1 h2 h3) k) Kt := by
  have hf := fits_at he
  unfold fits at hf; rw [he] at hf
  have hf := of_decide_eq_true hf
  have hS : St m c (n + 1) = iprop(TT m (mv (Pn n) ⟨r.val, by omega⟩ 2) c ∗ RR m (Qn n) c ∗ OW c (owe c (ln n).tail)) := by
    unfold St; rw [show Pn (n + 1) = mv (Pn n) ⟨r.val, by omega⟩ 2 by simp only [Pn, he], show Qn (n + 1) = Qn n by simp only [Qn, he], show ln (n + 1) = (ln n).tail by simp only [ln, he]]
  rw [hS] at hk
  unfold St
  rw [hf.2]
  iintro ⟨#HI, ⟨HT, HR, HO⟩, H⟩
  iapply (step_y m K c r (Pn n) (ln n).tail hf.1 hd ho ho' hs hs') $$ [HT HO]
  · isplitr; · iexact HI
    isplitl [HT] <;> iassumption
  iintro ⟨HT, HO⟩
  iapply hk
  isplitr; · iexact HI
  isplitr [H]
  · isplitl [HT]; · iexact HT
    isplitl [HR] <;> iassumption
  iexact H

/-! ### The barrier and the local copy -/

/-- What the signal along `d` takes. -/
def sg (d : Fin 3) (c : Dev nD) : sProp 𝕄 := iprop(dutyTok ER (bCell (nb d c)) 0 d ∗ mine d c)

theorem op_signal (d : Fin 3) (l : List (Fin 20)) (ds : List (Fin 3)) {n : Dev nD} {s : Sem sig} {a : ℕ} (hn : n = nb d c) (hs : s = bS) (ha : a = 1)
    (hk : iprop(records m K ∗ OW c (oweB c l ds) ∗ R) ⊢ wpc c (k ⟨⟩) Kt) :
    iprop(records m K ∗ OW c (oweB c l (d :: ds)) ∗ sg d c ∗ R) ⊢ wpc c (.op (.semSignal (n : Thread nD τ) s a) k) Kt := by
  unfold sg
  iintro ⟨#HI, HO, ⟨Ht, Hm⟩, H⟩
  iapply (step_signal m K c d l ds hn hs ha) $$ [HO Ht Hm]
  · isplitr; · iexact HI
    isplitl [Ht]; · iexact Ht
    isplitl [Hm] <;> iassumption
  iintro HO
  iapply hk
  isplitr; · iexact HI
  isplitl [HO] <;> iassumption

/-- What a device has for each transfer before the barrier gives it the place it lands in. -/
def Half (t : Fin 20) (c : Dev nD) : sProp 𝕄 :=
  iprop(dutyTok ER (sCell t c) 0 (0 : Fin 3) ∗ dutyTok ER (rCell t (peer t c)) 0 (0 : Fin 3) ∗ atPos ER (sCell t c) 0 (∅ : Finset (Fin 3)) 0)

/-- What a device takes into the barrier. -/
def bw (c : Dev nD) : sProp 𝕄 :=
  iprop(cred (tallyAt (bCell c) () 3) ∗ atPos ER (bCell c) 0 (∅ : Finset (Fin 3)) 0
    ∗ (bigSep Finset.univ fun t => Half t c) ∗ RR m (fun _ => false) c ∗ (bigSep firsts fun t => Src m t c) ∗ LS m 0 c)

theorem TT_start (c : Dev nD) : TT m (Pn 0) c
    = iprop(((bigSep Finset.univ fun t => Half t c) ∗ bigSep Finset.univ fun t => zone t c) ∗ bigSep firsts fun t => Src m t c) := by
  show TT m (feed (fun _ => 0) 100) c = _
  rw [TT_feed m _ 100 c (fun _ _ => rfl)]
  have h : TT m (fun _ => 0) c = iprop((bigSep Finset.univ fun t => Half t c) ∗ bigSep Finset.univ fun t => zone t c) := by
    rw [← bigSep_sep']
    unfold TT
    refine bigSep_congr fun t _ => ?_
    change Base t c = _
    refine eq_of_bi ⟨?_, ?_⟩
    · unfold Base Half
      iintro ⟨H1, H2, H3, H4⟩; iframe
    · unfold Base Half
      iintro ⟨⟨H1, H2, H3⟩, H4⟩; iframe
  rw [h]
  rfl

theorem op_barrier {s : Sem sig} {a : ℕ} (hs : s = bS) (ha : a = 3)
    (hk : iprop(records m K ∗ St m c 0 ∗ LS m 0 c ∗ semVal (bCell c) 0 ∗ R) ⊢ wpc c (k ⟨⟩) Kt) :
    iprop(records m K ∗ OW c (oweB c order []) ∗ bw m c ∗ R) ⊢ wpc c (.op (.semWait s a) k) Kt := by
  have hS : St m c 0 = iprop(TT m (Pn 0) c ∗ RR m (fun _ => false) c ∗ OW c (owe c order)) := rfl
  rw [hS, TT_start] at hk
  rw [show oweB c order [] = owe c order from rfl]
  unfold bw
  iintro ⟨#HI, HO, ⟨Hc, Ha, HH, HR, HF, HL⟩, H⟩
  iapply (step_barrier m K c order hs ha) $$ [HO Hc Ha]
  · isplitr; · iexact HI
    isplitl [Hc]; · iexact Hc
    isplitl [Ha] <;> iassumption
  iintro ⟨Hz, Hzn, HO⟩
  iapply hk
  isplitr; · iexact HI
  isplitr [HL Hz H]
  · isplitr [HR HO]
    · isplitr [HF]
      · isplitl [HH] <;> iassumption
      iexact HF
    isplitl [HR] <;> iassumption
  isplitl [HL]; · iexact HL
  isplitl [Hz] <;> iassumption

theorem op_copy (n : ℕ) {o inb hq} {sm : DmaSem sig} {h1 h2 h3} (ho : o = k0_off1 c) (hs : sm = lS)
    (hk : iprop(records m K ∗ St m c n ∗ LS m 1 c ∗ R) ⊢ wpc c (k ⟨⟩) Kt) :
    iprop(records m K ∗ St m c n ∗ LS m 0 c ∗ R)
      ⊢ wpc c (.op (.enqueueDma (xV 4096 1024 o inb hq) (.here (Memref.whole cc0_stg0_0 : Memref sig .tc .vmem S4096x1024 .f32)) (.dma sm) h1 h2 h3) k) Kt := by
  iintro ⟨#HI, HS, HL, H⟩
  iapply (step_copy m K c ho hs) $$ [HL]
  · isplitr; · iexact HI
    iexact HL
  iintro HL
  iapply hk
  isplitr; · iexact HI
  isplitl [HS]; · iexact HS
  isplitl [HL] <;> iassumption

theorem op_local (n : ℕ) {sm : DmaSem sig} (hs : sm = lS)
    {sp sp' : Space} {s : Shape} {e : EltTy} {src : Memref sig .tc sp s e} {dst : Memref sig .tc sp' s e} (hd : dst.view.dmaCredit = amtL) {h1 h2}
    (hk : iprop(records m K ∗ St m c n ∗ LS m 2 c ∗ R) ⊢ wpc c (k ⟨⟩) Kt) :
    iprop(records m K ∗ St m c n ∗ LS m 1 c ∗ R) ⊢ wpc c (.op (.waitDma2 sm src dst h1 h2) k) Kt := by
  unfold St at hk ⊢
  iintro ⟨#HI, ⟨HT, HR, HO⟩, HL, H⟩
  iapply (step_local m K c (ln n) hs hd) $$ [HL HO]
  · isplitr; · iexact HI
    isplitl [HL] <;> iassumption
  iintro ⟨HL, HO⟩
  iapply hk
  isplitr; · iexact HI
  isplitr [HL H]
  · isplitl [HT]; · iexact HT
    isplitl [HR] <;> iassumption
  isplitl [HL] <;> iassumption

/-! ### The loads and the store -/

abbrev r0 : Rect S4096x1024 := Rect.unit (s := S4096x1024) ![0, 0] S4096x1024.size inb_S4096x1024_S4096x1024_0_0
theorem hz : (![0, 0] : Fin 2 → Nat) = fun _ => 0 := funext fun a => by fin_cases a <;> rfl

/-- After the local copy: the output's stage holding `f`, and the half of `x` copied. -/
def LF (f : (cc0_stg0_0 : Ref sig .tc).ty.Contents (Elt F)) (c : Dev nD) : sProp 𝕄 :=
  iprop(stP c f ∗ xP m c (xHalf c) fullShare.left ∗ semVal (lCell c) 0)

theorem LF_own : LS m 2 c = LF m (own m c) c := rfl

theorem op_load1 {A : sProp (MT nD τ sig Unit (Elt F) ℕ UU ℕ)} {S : sProp (MT nD τ sig Unit (Elt F) ℕ UU ℕ)} (f : (cc0_stg0_0 : Ref sig .tc).ty.Contents (Elt F))
    {k : Vec F S4096x1024 .f32 → Prog (TpuEff nD τ sig (Elt F) Λ₀ .tc) α} {h}
    (hk : iprop(S ∗ A ∗ LF m f c ∗ R) ⊢ wpc c (k f) Kt) :
    iprop(S ∗ A ∗ LF m f c ∗ R) ⊢ wpc c (.op (.load (Memref.whole cc0_stg0_0 : Memref sig .tc .vmem S4096x1024 .f32) r0.toLoadRect h) k) Kt := by
  have hr : (Memref.whole cc0_stg0_0 : Memref sig .tc .vmem S4096x1024 .f32).view.readAt (Elt F) r0.toLoadRect f = f := Memref.readAt_unit_zero (Elt F) cc0_stg0_0 hz _ f
  unfold LF stP at hk ⊢
  iintro ⟨HS, HA, ⟨Hf, HX⟩, H⟩
  iapply (wp_load 𝒱₀ (c : Thread nD τ) none Set.univ (m := (Memref.whole cc0_stg0_0 : Memref sig .tc .vmem S4096x1024 .f32)) (Finset.subset_univ _)) $$ Hf
  iintro Hf
  rw [hr]
  iapply hk
  isplitl [HS]; · iexact HS
  isplitl [HA]; · iexact HA
  isplitr [H]
  · isplitl [Hf]; · iexact Hf
    iexact HX
  iexact H

theorem op_store {A S : sProp (MT nD τ sig Unit (Elt F) ℕ UU ℕ)} (f w : (cc0_stg0_0 : Ref sig .tc).ty.Contents (Elt F)) {h h'}
    (hk : iprop(S ∗ A ∗ LF m w c ∗ R) ⊢ wpc c (k ⟨⟩) Kt) :
    iprop(S ∗ A ∗ LF m f c ∗ R) ⊢ wpc c (.op (.store (Memref.whole cc0_stg0_0 : Memref sig .tc .vmem S4096x1024 .f32) r0 w Finset.univ h h') k) Kt := by
  have hr : ((Memref.whole cc0_stg0_0 : Memref sig .tc .vmem S4096x1024 .f32).access r0 : View sig .tc _ _ _).write (Elt F) f w Finset.univ = w := Memref.write_access_unit_zero_univ (Elt F) cc0_stg0_0 hz _ f w
  unfold LF stP at hk ⊢
  iintro ⟨HS, HA, ⟨Hf, HX⟩, H⟩
  iapply (wp_store 𝒱₀ (c : Thread nD τ) none Set.univ (m := (Memref.whole cc0_stg0_0 : Memref sig .tc .vmem S4096x1024 .f32)) (r := r0) (Mk := Finset.univ) (Finset.subset_univ _)) $$ Hf
  iintro Hf
  rw [hr]
  iapply hk
  isplitl [HS]; · iexact HS
  isplitl [HA]; · iexact HA
  isplitr [H]
  · isplitl [Hf]; · iexact Hf
    iexact HX
  iexact H

/-- All transfers into a device landed: its semaphores at zero, a share of its whole landing buffer, and what it keeps of
    each piece. -/
theorem RR_done : RR m (fun _ => true) c
    = iprop((bigSep Finset.univ fun t => semVal (rCell t c) 0) ∗ ldP c Finset.univ fullShare.left (land m c) ∗ bigSep Finset.univ fun t => Keep m t c) := by
  rw [ld_pieces]
  have h : RR m (fun _ => true) c = bigSep Finset.univ fun t => iprop(semVal (rCell t c) 0 ∗ ldP c (piece t c) fullShare.left (land m c) ∗ Keep m t c) := rfl
  rw [h, bigSep_sep', bigSep_sep']

theorem Qn_done : Qn 40 = fun _ => true := funext (by decide +kernel)
theorem Qn_end : Qn 60 = fun _ => true := funext (by decide +kernel)
theorem Pn_end : Pn 60 = fun _ => 3 := funext (by decide +kernel)
theorem ln_end : ln 60 = [] := by decide +kernel

theorem op_load2 {k : Vec F S4096x1024 .f32 → Prog (TpuEff nD τ sig (Elt F) Λ₀ .tc) α} {S : sProp (MT nD τ sig Unit (Elt F) ℕ UU ℕ)} {h}
    (hk : iprop(S ∗ St m c 40 ∗ R) ⊢ wpc c (k (land m c)) Kt) :
    iprop(S ∗ St m c 40 ∗ R) ⊢ wpc c (.op (.load (Memref.whole cc0_scratch0 : Memref sig .tc .vmem S4096x1024 .f32) r0.toLoadRect h) k) Kt := by
  have hr : (Memref.whole cc0_scratch0 : Memref sig .tc .vmem S4096x1024 .f32).view.readAt (Elt F) r0.toLoadRect (land m c) = land m c := Memref.readAt_unit_zero (Elt F) cc0_scratch0 hz _ _
  unfold St at hk ⊢
  rw [Qn_done, RR_done] at hk ⊢
  unfold ldP at hk ⊢
  iintro ⟨HS, ⟨HT, ⟨Hz, Hf, HK⟩, HO⟩, H⟩
  iapply (wp_load 𝒱₀ (c : Thread nD τ) none Set.univ (m := (Memref.whole cc0_scratch0 : Memref sig .tc .vmem S4096x1024 .f32)) (Finset.subset_univ _)) $$ Hf
  iintro Hf
  rw [hr]
  iapply hk
  isplitl [HS]; · iexact HS
  isplitr [H]
  · isplitl [HT]; · iexact HT
    isplitr [HO]
    · isplitl [Hz]; · iexact Hz
      isplitl [Hf] <;> iassumption
    iexact HO
  iexact H

end Ops

end Cert.KernelIdeal.Mesh

end
-- ==== Proof.KernelIdeal.Parts.lean ====
/-
The body of the kernel, part by part: each part takes a device some steps further.
-/
module

public import proofs.«01_k».proof.Proof.KernelIdeal.Ops

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 42 → ℕ) (c : Dev nD) {R : sProp (MT nD τ sig Unit (Elt F) ℕ UU ℕ)}

/-- A program that has returned. -/
theorem ends {α : Type} {P : sProp (MT nD τ sig Unit (Elt F) ℕ UU ℕ)} {Kt : α → sProp (MT nD τ sig Unit (Elt F) ℕ UU ℕ)} {a : α} (h : P ⊢ Kt a) :
    P ⊢ wpc c (.ret a) Kt := by
  rw [wpc, wp_ret]
  iintro H
  imodintro
  iapply h $$ H

/-! ## The parts -/

theorem part3 (v2 v5 v8 v9 v13 : BitVec 32) {Kt} (hk : ∀ r, iprop(records m K ∗ St m c 2 ∗ R) ⊢ Kt r) :
    iprop(records m K ∗ St m c 1 ∗ R) ⊢ wpc c (k0_part3 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v9 v13) Kt := by
  rw [k0_part3_eq_skeleton]; unfold k0_part3_skel
  simp only [semSignalWord, semWaitWord, Prog.lift, Prog.bind_op, Prog.bind_ret, Prog.pure_eq_ret]
  refine op_y m K c 1 1 rfl (by clear hk; revert c; decide +kernel) (by clear hk; revert c; decide +kernel) rfl rfl rfl ?_
  exact ends c (hk _)

theorem part4 (v2 v5 v8 v9 v13 v92 c0_i32_69 : BitVec 32) {Kt} (hk : ∀ r, iprop(records m K ∗ St m c 4 ∗ R) ⊢ Kt r) :
    iprop(records m K ∗ St m c 2 ∗ R) ⊢ wpc c (k0_part4 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v9 v13 v92 c0_i32_69) Kt := by
  rw [k0_part4_eq_skeleton]; unfold k0_part4_skel
  simp only [semSignalWord, semWaitWord, Prog.lift, Prog.bind_op, Prog.bind_ret, Prog.pure_eq_ret]
  refine op_y m K c 2 2 rfl (by clear hk; revert c; decide +kernel) (by clear hk; revert c; decide +kernel) rfl rfl rfl ?_
  refine op_y m K c 3 3 rfl (by clear hk; revert c; decide +kernel) (by clear hk; revert c; decide +kernel) rfl rfl rfl ?_
  exact ends c (hk _)

theorem part5 (v2 v5 v8 v9 v10 v13 : BitVec 32) {Kt} (hk : ∀ r, iprop(records m K ∗ St m c 6 ∗ R) ⊢ Kt r) :
    iprop(records m K ∗ St m c 4 ∗ R) ⊢ wpc c (k0_part5 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v9 v10 v13) Kt := by
  rw [k0_part5_eq_skeleton]; unfold k0_part5_skel
  simp only [semSignalWord, semWaitWord, Prog.lift, Prog.bind_op, Prog.bind_ret, Prog.pure_eq_ret]
  refine op_recv m K c 4 0 rfl rfl rfl ?_
  refine op_fwd m K c 5 4 rfl (by decide) 256 rfl (by clear hk; revert c; decide +kernel) (by clear hk; revert c; decide +kernel) (by clear hk; revert c; decide +kernel) rfl rfl ?_
  exact ends c (hk _)

theorem part6 (v2 v5 v8 v9 v11 v13 v160 : BitVec 32) {Kt} (hk : ∀ r, iprop(records m K ∗ St m c 7 ∗ R) ⊢ Kt r) :
    iprop(records m K ∗ St m c 6 ∗ R) ⊢ wpc c (k0_part6 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v9 v11 v13 v160) Kt := by
  rw [k0_part6_eq_skeleton]; unfold k0_part6_skel
  simp only [semSignalWord, semWaitWord, Prog.lift, Prog.bind_op, Prog.bind_ret, Prog.pure_eq_ret]
  refine op_fwd m K c 6 8 rfl (by decide) 256 rfl (by clear hk; revert c; decide +kernel) (by clear hk; revert c; decide +kernel) (by clear hk; revert c; decide +kernel) rfl rfl ?_
  exact ends c (hk _)

theorem part7 (v2 v5 v8 v10 v11 v13 : BitVec 32) {Kt} (hk : ∀ r, iprop(records m K ∗ St m c 9 ∗ R) ⊢ Kt r) :
    iprop(records m K ∗ St m c 7 ∗ R) ⊢ wpc c (k0_part7 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v10 v11 v13) Kt := by
  rw [k0_part7_eq_skeleton]; unfold k0_part7_skel
  simp only [semSignalWord, semWaitWord, Prog.lift, Prog.bind_op, Prog.bind_ret, Prog.pure_eq_ret]
  refine op_recv m K c 7 1 rfl rfl rfl ?_
  refine op_fwd m K c 8 5 rfl (by decide) 256 rfl (by clear hk; revert c; decide +kernel) (by clear hk; revert c; decide +kernel) (by clear hk; revert c; decide +kernel) rfl rfl ?_
  exact ends c (hk _)

theorem part8 (v2 v5 v8 v9 v10 v13 : BitVec 32) {Kt} (hk : ∀ r, iprop(records m K ∗ St m c 11 ∗ R) ⊢ Kt r) :
    iprop(records m K ∗ St m c 9 ∗ R) ⊢ wpc c (k0_part8 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v9 v10 v13) Kt := by
  rw [k0_part8_eq_skeleton]; unfold k0_part8_skel
  simp only [semSignalWord, semWaitWord, Prog.lift, Prog.bind_op, Prog.bind_ret, Prog.pure_eq_ret]
  refine op_fwd m K c 9 9 rfl (by decide) 256 rfl (by clear hk; revert c; decide +kernel) (by clear hk; revert c; decide +kernel) (by clear hk; revert c; decide +kernel) rfl rfl ?_
  refine op_recv m K c 10 2 rfl rfl rfl ?_
  exact ends c (hk _)

theorem part9 (v2 v5 v8 v11 v13 v255 : BitVec 32) {Kt} (hk : ∀ r, iprop(records m K ∗ St m c 13 ∗ R) ⊢ Kt r) :
    iprop(records m K ∗ St m c 11 ∗ R) ⊢ wpc c (k0_part9 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v11 v13 v255) Kt := by
  rw [k0_part9_eq_skeleton]; unfold k0_part9_skel
  simp only [semSignalWord, semWaitWord, Prog.lift, Prog.bind_op, Prog.bind_ret, Prog.pure_eq_ret]
  refine op_fwd m K c 11 6 rfl (by decide) 256 rfl (by clear hk; revert c; decide +kernel) (by clear hk; revert c; decide +kernel) (by clear hk; revert c; decide +kernel) rfl rfl ?_
  refine op_fwd m K c 12 10 rfl (by decide) 256 rfl (by clear hk; revert c; decide +kernel) (by clear hk; revert c; decide +kernel) (by clear hk; revert c; decide +kernel) rfl rfl ?_
  exact ends c (hk _)

theorem part10 (v2 v5 v8 v9 v10 v13 c4_i32_222 : BitVec 32) {Kt} (hk : ∀ r, iprop(records m K ∗ St m c 15 ∗ R) ⊢ Kt r) :
    iprop(records m K ∗ St m c 13 ∗ R) ⊢ wpc c (k0_part10 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v9 v10 v13 c4_i32_222) Kt := by
  rw [k0_part10_eq_skeleton]; unfold k0_part10_skel
  simp only [semSignalWord, semWaitWord, Prog.lift, Prog.bind_op, Prog.bind_ret, Prog.pure_eq_ret]
  refine op_recv m K c 13 3 rfl rfl rfl ?_
  refine op_fwd m K c 14 7 rfl (by decide) 256 rfl (by clear hk; revert c; decide +kernel) (by clear hk; revert c; decide +kernel) (by clear hk; revert c; decide +kernel) rfl rfl ?_
  exact ends c (hk _)

theorem part11 (v2 v5 v8 v10 v11 v16 v320 c0_i32_247 : BitVec 32) {Kt} (hk : ∀ r, iprop(records m K ∗ St m c 17 ∗ R) ⊢ Kt r) :
    iprop(records m K ∗ St m c 15 ∗ R) ⊢ wpc c (k0_part11 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v10 v11 v16 v320 c0_i32_247) Kt := by
  rw [k0_part11_eq_skeleton]; unfold k0_part11_skel
  simp only [semSignalWord, semWaitWord, Prog.lift, Prog.bind_op, Prog.bind_ret, Prog.pure_eq_ret]
  refine op_fwd m K c 15 11 rfl (by decide) 256 rfl (by clear hk; revert c; decide +kernel) (by clear hk; revert c; decide +kernel) (by clear hk; revert c; decide +kernel) rfl rfl ?_
  refine op_recv m K c 16 4 rfl rfl rfl ?_
  exact ends c (hk _)

theorem part12 (v2 v5 v11 v16 v19 c1024_i32_272 : BitVec 32) {Kt} (hk : ∀ r, iprop(records m K ∗ St m c 19 ∗ R) ⊢ Kt r) :
    iprop(records m K ∗ St m c 17 ∗ R) ⊢ wpc c (k0_part12 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v11 v16 v19 c1024_i32_272) Kt := by
  rw [k0_part12_eq_skeleton]; unfold k0_part12_skel
  simp only [semSignalWord, semWaitWord, Prog.lift, Prog.bind_op, Prog.bind_ret, Prog.pure_eq_ret]
  refine op_fwd m K c 17 16 rfl (by decide) 128 rfl (by clear hk; revert c; decide +kernel) (by clear hk; revert c; decide +kernel) (by clear hk; revert c; decide +kernel) rfl rfl ?_
  refine op_recv m K c 18 8 rfl rfl rfl ?_
  exact ends c (hk _)

theorem part13 (v5 v8 v10 v16 v19 v384 c0_i32_298 : BitVec 32) {Kt} (hk : ∀ r, iprop(records m K ∗ St m c 20 ∗ R) ⊢ Kt r) :
    iprop(records m K ∗ St m c 19 ∗ R) ⊢ wpc c (k0_part13 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v5 v8 v10 v16 v19 v384 c0_i32_298) Kt := by
  rw [k0_part13_eq_skeleton]; unfold k0_part13_skel
  simp only [semSignalWord, semWaitWord, Prog.lift, Prog.bind_op, Prog.bind_ret, Prog.pure_eq_ret]
  refine op_fwd m K c 19 12 rfl (by decide) 128 rfl (by clear hk; revert c; decide +kernel) (by clear hk; revert c; decide +kernel) (by clear hk; revert c; decide +kernel) rfl rfl ?_
  exact ends c (hk _)

theorem part14 (v2 v5 v11 v16 v19 : BitVec 32) {Kt} (hk : ∀ r, iprop(records m K ∗ St m c 22 ∗ R) ⊢ Kt r) :
    iprop(records m K ∗ St m c 20 ∗ R) ⊢ wpc c (k0_part14 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v11 v16 v19) Kt := by
  rw [k0_part14_eq_skeleton]; unfold k0_part14_skel
  simp only [semSignalWord, semWaitWord, Prog.lift, Prog.bind_op, Prog.bind_ret, Prog.pure_eq_ret]
  refine op_recv m K c 20 5 rfl rfl rfl ?_
  refine op_fwd m K c 21 17 rfl (by decide) 128 rfl (by clear hk; revert c; decide +kernel) (by clear hk; revert c; decide +kernel) (by clear hk; revert c; decide +kernel) rfl rfl ?_
  exact ends c (hk _)

theorem part15 (v5 v8 v10 v16 v19 : BitVec 32) {Kt} (hk : ∀ r, iprop(records m K ∗ St m c 24 ∗ R) ⊢ Kt r) :
    iprop(records m K ∗ St m c 22 ∗ R) ⊢ wpc c (k0_part15 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v5 v8 v10 v16 v19) Kt := by
  rw [k0_part15_eq_skeleton]; unfold k0_part15_skel
  simp only [semSignalWord, semWaitWord, Prog.lift, Prog.bind_op, Prog.bind_ret, Prog.pure_eq_ret]
  refine op_recv m K c 22 9 rfl rfl rfl ?_
  refine op_fwd m K c 23 13 rfl (by decide) 128 rfl (by clear hk; revert c; decide +kernel) (by clear hk; revert c; decide +kernel) (by clear hk; revert c; decide +kernel) rfl rfl ?_
  exact ends c (hk _)

theorem part16 (v2 v5 v8 v11 v16 v19 v479 c1_i32_378 : BitVec 32) {Kt} (hk : ∀ r, iprop(records m K ∗ St m c 26 ∗ R) ⊢ Kt r) :
    iprop(records m K ∗ St m c 24 ∗ R) ⊢ wpc c (k0_part16 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v11 v16 v19 v479 c1_i32_378) Kt := by
  rw [k0_part16_eq_skeleton]; unfold k0_part16_skel
  simp only [semSignalWord, semWaitWord, Prog.lift, Prog.bind_op, Prog.bind_ret, Prog.pure_eq_ret]
  refine op_recv m K c 24 6 rfl rfl rfl ?_
  refine op_fwd m K c 25 18 rfl (by decide) 128 rfl (by clear hk; revert c; decide +kernel) (by clear hk; revert c; decide +kernel) (by clear hk; revert c; decide +kernel) rfl rfl ?_
  exact ends c (hk _)

theorem part17 (v5 v8 v10 v11 v16 v19 v511 : BitVec 32) {Kt} (hk : ∀ r, iprop(records m K ∗ St m c 28 ∗ R) ⊢ Kt r) :
    iprop(records m K ∗ St m c 26 ∗ R) ⊢ wpc c (k0_part17 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v5 v8 v10 v11 v16 v19 v511) Kt := by
  rw [k0_part17_eq_skeleton]; unfold k0_part17_skel
  simp only [semSignalWord, semWaitWord, Prog.lift, Prog.bind_op, Prog.bind_ret, Prog.pure_eq_ret]
  refine op_recv m K c 26 10 rfl rfl rfl ?_
  refine op_fwd m K c 27 14 rfl (by decide) 128 rfl (by clear hk; revert c; decide +kernel) (by clear hk; revert c; decide +kernel) (by clear hk; revert c; decide +kernel) rfl rfl ?_
  exact ends c (hk _)

theorem part18 (v2 v5 v8 v10 v11 v16 v19 : BitVec 32) {Kt} (hk : ∀ r, iprop(records m K ∗ St m c 30 ∗ R) ⊢ Kt r) :
    iprop(records m K ∗ St m c 28 ∗ R) ⊢ wpc c (k0_part18 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v10 v11 v16 v19) Kt := by
  rw [k0_part18_eq_skeleton]; unfold k0_part18_skel
  simp only [semSignalWord, semWaitWord, Prog.lift, Prog.bind_op, Prog.bind_ret, Prog.pure_eq_ret]
  refine op_recv m K c 28 7 rfl rfl rfl ?_
  refine op_fwd m K c 29 19 rfl (by decide) 128 rfl (by clear hk; revert c; decide +kernel) (by clear hk; revert c; decide +kernel) (by clear hk; revert c; decide +kernel) rfl rfl ?_
  exact ends c (hk _)

theorem part19 (v2 v5 v8 v10 v11 v19 v576 : BitVec 32) {Kt} (hk : ∀ r, iprop(records m K ∗ St m c 32 ∗ R) ⊢ Kt r) :
    iprop(records m K ∗ St m c 30 ∗ R) ⊢ wpc c (k0_part19 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v10 v11 v19 v576) Kt := by
  rw [k0_part19_eq_skeleton]; unfold k0_part19_skel
  simp only [semSignalWord, semWaitWord, Prog.lift, Prog.bind_op, Prog.bind_ret, Prog.pure_eq_ret]
  refine op_recv m K c 30 11 rfl rfl rfl ?_
  refine op_fwd m K c 31 15 rfl (by decide) 128 rfl (by clear hk; revert c; decide +kernel) (by clear hk; revert c; decide +kernel) (by clear hk; revert c; decide +kernel) rfl rfl ?_
  exact ends c (hk _)

theorem part20 (v2 v5 v8 v10 v11 v607 v608 : BitVec 32) {Kt} (hk : ∀ r, iprop(records m K ∗ St m c 33 ∗ R) ⊢ Kt r) :
    iprop(records m K ∗ St m c 32 ∗ R) ⊢ wpc c (k0_part20 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v10 v11 v607 v608) Kt := by
  rw [k0_part20_eq_skeleton]; unfold k0_part20_skel
  simp only [semSignalWord, semWaitWord, Prog.lift, Prog.bind_op, Prog.bind_ret, Prog.pure_eq_ret]
  refine op_recv m K c 32 12 rfl rfl rfl ?_
  exact ends c (hk _)

theorem part21 (v2 v5 v8 v10 v11 v609 : BitVec 32) {Kt} (hk : ∀ r, iprop(records m K ∗ St m c 35 ∗ R) ⊢ Kt r) :
    iprop(records m K ∗ St m c 33 ∗ R) ⊢ wpc c (k0_part21 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v10 v11 v609) Kt := by
  rw [k0_part21_eq_skeleton]; unfold k0_part21_skel
  simp only [semSignalWord, semWaitWord, Prog.lift, Prog.bind_op, Prog.bind_ret, Prog.pure_eq_ret]
  refine op_recv m K c 33 16 rfl rfl rfl ?_
  refine op_recv m K c 34 13 rfl rfl rfl ?_
  exact ends c (hk _)

theorem part22 (v2 v5 v8 v10 v11 v609 : BitVec 32) {Kt} (hk : ∀ r, iprop(records m K ∗ St m c 37 ∗ R) ⊢ Kt r) :
    iprop(records m K ∗ St m c 35 ∗ R) ⊢ wpc c (k0_part22 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v10 v11 v609) Kt := by
  rw [k0_part22_eq_skeleton]; unfold k0_part22_skel
  simp only [semSignalWord, semWaitWord, Prog.lift, Prog.bind_op, Prog.bind_ret, Prog.pure_eq_ret]
  refine op_recv m K c 35 17 rfl rfl rfl ?_
  refine op_recv m K c 36 14 rfl rfl rfl ?_
  exact ends c (hk _)

theorem part23 (v2 v5 v8 v10 v609 : BitVec 32) {Kt} (hk : ∀ r, iprop(records m K ∗ St m c 39 ∗ R) ⊢ Kt r) :
    iprop(records m K ∗ St m c 37 ∗ R) ⊢ wpc c (k0_part23 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v10 v609) Kt := by
  rw [k0_part23_eq_skeleton]; unfold k0_part23_skel
  simp only [semSignalWord, semWaitWord, Prog.lift, Prog.bind_op, Prog.bind_ret, Prog.pure_eq_ret]
  refine op_recv m K c 37 18 rfl rfl rfl ?_
  refine op_recv m K c 38 15 rfl rfl rfl ?_
  exact ends c (hk _)

theorem part24 (v5 v11 v13 v731 c1_i32_591 : BitVec 32) {Kt} (hk : ∀ r, iprop(records m K ∗ St m c 41 ∗ LF m (outAt m c) c ∗ R) ⊢ Kt r) :
    iprop(records m K ∗ St m c 39 ∗ LS m 1 c ∗ R) ⊢ wpc c (k0_part24 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v5 v11 v13 v731 c1_i32_591) Kt := by
  rw [k0_part24_eq_skeleton]; unfold k0_part24_skel
  simp only [semSignalWord, semWaitWord, Prog.lift, Prog.bind_op, Prog.bind_ret, Prog.pure_eq_ret]
  refine op_recv m K c 39 19 rfl rfl rfl ?_
  refine op_local m K c 40 rfl rfl ?_
  rw [LF_own]
  refine op_load1 m c (own m c) ?_
  refine op_load2 m c ?_
  refine op_load1 m c (own m c) ?_
  refine op_store m c (own m c) (outAt m c) ?_
  refine op_back m K c 40 0 rfl rfl rfl ?_
  exact ends c (hk _)

theorem part25 (v13 v16 c1024_i32_617 : BitVec 32) {Kt} (hk : ∀ r, iprop(records m K ∗ St m c 44 ∗ R) ⊢ Kt r) :
    iprop(records m K ∗ St m c 41 ∗ R) ⊢ wpc c (k0_part25 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v13 v16 c1024_i32_617) Kt := by
  rw [k0_part25_eq_skeleton]; unfold k0_part25_skel
  simp only [semSignalWord, semWaitWord, Prog.lift, Prog.bind_op, Prog.bind_ret, Prog.pure_eq_ret]
  refine op_back m K c 41 4 rfl rfl rfl ?_
  refine op_back m K c 42 8 rfl rfl rfl ?_
  refine op_back m K c 43 16 rfl rfl rfl ?_
  exact ends c (hk _)

theorem part26 (v5 v13 v19 c1024_i32_647 : BitVec 32) {Kt} (hk : ∀ r, iprop(records m K ∗ St m c 46 ∗ R) ⊢ Kt r) :
    iprop(records m K ∗ St m c 44 ∗ R) ⊢ wpc c (k0_part26 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v5 v13 v19 c1024_i32_647) Kt := by
  rw [k0_part26_eq_skeleton]; unfold k0_part26_skel
  simp only [semSignalWord, semWaitWord, Prog.lift, Prog.bind_op, Prog.bind_ret, Prog.pure_eq_ret]
  refine op_back m K c 44 12 rfl rfl rfl ?_
  refine op_back m K c 45 1 rfl rfl rfl ?_
  exact ends c (hk _)

theorem part27 (v13 v16 v19 : BitVec 32) {Kt} (hk : ∀ r, iprop(records m K ∗ St m c 49 ∗ R) ⊢ Kt r) :
    iprop(records m K ∗ St m c 46 ∗ R) ⊢ wpc c (k0_part27 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v13 v16 v19) Kt := by
  rw [k0_part27_eq_skeleton]; unfold k0_part27_skel
  simp only [semSignalWord, semWaitWord, Prog.lift, Prog.bind_op, Prog.bind_ret, Prog.pure_eq_ret]
  refine op_back m K c 46 5 rfl rfl rfl ?_
  refine op_back m K c 47 9 rfl rfl rfl ?_
  refine op_back m K c 48 17 rfl rfl rfl ?_
  exact ends c (hk _)

theorem part28 (v5 v13 v19 : BitVec 32) {Kt} (hk : ∀ r, iprop(records m K ∗ St m c 51 ∗ R) ⊢ Kt r) :
    iprop(records m K ∗ St m c 49 ∗ R) ⊢ wpc c (k0_part28 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v5 v13 v19) Kt := by
  rw [k0_part28_eq_skeleton]; unfold k0_part28_skel
  simp only [semSignalWord, semWaitWord, Prog.lift, Prog.bind_op, Prog.bind_ret, Prog.pure_eq_ret]
  refine op_back m K c 49 13 rfl rfl rfl ?_
  refine op_back m K c 50 2 rfl rfl rfl ?_
  exact ends c (hk _)

theorem part29 (v13 v16 v19 : BitVec 32) {Kt} (hk : ∀ r, iprop(records m K ∗ St m c 54 ∗ R) ⊢ Kt r) :
    iprop(records m K ∗ St m c 51 ∗ R) ⊢ wpc c (k0_part29 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v13 v16 v19) Kt := by
  rw [k0_part29_eq_skeleton]; unfold k0_part29_skel
  simp only [semSignalWord, semWaitWord, Prog.lift, Prog.bind_op, Prog.bind_ret, Prog.pure_eq_ret]
  refine op_back m K c 51 6 rfl rfl rfl ?_
  refine op_back m K c 52 10 rfl rfl rfl ?_
  refine op_back m K c 53 18 rfl rfl rfl ?_
  exact ends c (hk _)

theorem part30 (v5 v13 v898 c0_i32_766 : BitVec 32) {Kt} (hk : ∀ r, iprop(records m K ∗ St m c 57 ∗ R) ⊢ Kt r) :
    iprop(records m K ∗ St m c 54 ∗ R) ⊢ wpc c (k0_part30 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v5 v13 v898 c0_i32_766) Kt := by
  rw [k0_part30_eq_skeleton]; unfold k0_part30_skel
  simp only [semSignalWord, semWaitWord, Prog.lift, Prog.bind_op, Prog.bind_ret, Prog.pure_eq_ret]
  refine op_back m K c 54 14 rfl rfl rfl ?_
  refine op_back m K c 55 3 rfl rfl rfl ?_
  refine op_back m K c 56 7 rfl rfl rfl ?_
  exact ends c (hk _)

theorem part31 (v13 v16 v19 : BitVec 32) {Kt} (hk : ∀ r, iprop(records m K ∗ St m c 59 ∗ R) ⊢ Kt r) :
    iprop(records m K ∗ St m c 57 ∗ R) ⊢ wpc c (k0_part31 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v13 v16 v19) Kt := by
  rw [k0_part31_eq_skeleton]; unfold k0_part31_skel
  simp only [semSignalWord, semWaitWord, Prog.lift, Prog.bind_op, Prog.bind_ret, Prog.pure_eq_ret]
  refine op_back m K c 57 11 rfl rfl rfl ?_
  refine op_back m K c 58 19 rfl rfl rfl ?_
  exact ends c (hk _)

/-- The first two signals; the device's number is its own. -/
theorem part1 {Kt} (hk : ∀ v2 v5 v8 v9 v10 v11 v13 v16 v19, iprop(records m K ∗ OW c (oweB c order [2]) ∗ sg 2 c ∗ R) ⊢ Kt ⟨c, v2, v5, v8, v9, v10, v11, v13, v16, v19, SemArray.scalar (sig.barrier 0 rfl)⟩) :
    iprop(records m K ∗ OW c (oweB c order [0, 1, 2]) ∗ sg 0 c ∗ sg 1 c ∗ sg 2 c ∗ R) ⊢ wpc c (k0_part1 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11) Kt := by
  rw [k0_part1_eq_skeleton]; unfold k0_part1_skel
  simp only [semSignalWord, semWaitWord, Prog.lift, Prog.bind_op, Prog.bind_ret, Prog.pure_eq_ret]
  rw [wpc, wp_deviceId]
  refine op_signal m K c 0 order [1, 2] (by clear hk; revert c; decide +kernel) rfl rfl ?_
  refine op_signal m K c 1 order [2] (by clear hk; revert c; decide +kernel) rfl rfl ?_
  exact ends c (hk _ _ _ _ _ _ _ _ _)

/-- The last signal, the barrier, the local copy, the first transfer. -/
theorem part2 (v2 v5 v8 v9 v11 v13 : BitVec 32) {Kt} (hk : ∀ r, iprop(records m K ∗ St m c 1 ∗ LS m 1 c ∗ semVal (bCell c) 0 ∗ R) ⊢ Kt r) :
    iprop(records m K ∗ OW c (oweB c order [2]) ∗ sg 2 c ∗ bw m c ∗ R) ⊢ wpc c (k0_part2 (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11
        c v2 v5 v8 v9 v11 v13 (SemArray.scalar (sig.barrier 0 rfl))) Kt := by
  rw [k0_part2_eq_skeleton]; unfold k0_part2_skel
  simp only [semSignalWord, semWaitWord, Prog.lift, Prog.bind_op, Prog.bind_ret, Prog.pure_eq_ret]
  refine op_signal m K c 2 order [] (by clear hk; revert c; decide +kernel) rfl rfl ?_
  refine op_barrier m K c rfl rfl ?_
  refine op_copy m K c 0 rfl rfl ?_
  refine op_y m K c 0 0 rfl (by clear hk; revert c; decide +kernel) (by clear hk; revert c; decide +kernel) rfl rfl rfl ?_
  exact ends c (hk _)

/-- One part after another. -/
theorem seq {α β : Type} {P : sProp (MT nD τ sig Unit (Elt F) ℕ UU ℕ)} {Kt : β → sProp (MT nD τ sig Unit (Elt F) ℕ UU ℕ)}
    {p : Prog (TpuEff nD τ sig (Elt F) Λ₀ .tc) α} {k : α → Prog (TpuEff nD τ sig (Elt F) Λ₀ .tc) β} (h : P ⊢ wpc c p (fun a => wpc c (k a) Kt)) :
    P ⊢ wpc c (p >>= k) Kt := by
  rw [wpc, wp_bind]; exact h

set_option maxRecDepth 65536 in
/-- The whole body: from what a device holds before its signals to what it holds when every transfer's data is back. -/
theorem whole {Kt} (hk : iprop(records m K ∗ St m c 60 ∗ LF m (outAt m c) c ∗ semVal (bCell c) 0 ∗ R) ⊢ Kt ⟨⟩) :
    iprop(records m K ∗ OW c (oweB c order [0, 1, 2]) ∗ sg 0 c ∗ sg 1 c ∗ sg 2 c ∗ bw m c ∗ R) ⊢ wpc c (cc0_body (F := F) (Memref.whole main_arg0) (Memref.isWhole_whole _) (Memref.whole cc0_stg0_0) (Memref.isWhole_whole _) (Memref.whole cc0_scratch0) (Memref.isWhole_whole _)
        cc0_scratch1 cc0_scratch2 cc0_scratch3 cc0_scratch4 cc0_scratch5 cc0_scratch6 cc0_scratch7 cc0_scratch8 cc0_scratch9 cc0_scratch10 cc0_scratch11) Kt := by
  rw [cc0_body_eq_skeleton]; unfold cc0_body_skel
  refine seq c (part1 m K c fun _ _ _ _ _ _ _ _ _ => ?_)
  refine seq c (part2 m K c _ _ _ _ _ _ fun _ => ?_)
  refine seq c (part3 m K c _ _ _ _ _ fun r => ?_)
  obtain ⟨_, _⟩ := r
  refine seq c (part4 m K c _ _ _ _ _ _ _ fun r => ?_)
  refine seq c (part5 m K c _ _ _ _ _ _ fun r => ?_)
  refine seq c (part6 m K c _ _ _ _ _ _ _ fun r => ?_)
  refine seq c (part7 m K c _ _ _ _ _ _ fun r => ?_)
  refine seq c (part8 m K c _ _ _ _ _ _ fun r => ?_)
  refine seq c (part9 m K c _ _ _ _ _ _ fun r => ?_)
  refine seq c (part10 m K c _ _ _ _ _ _ _ fun r => ?_)
  obtain ⟨_, _⟩ := r
  refine seq c (part11 m K c _ _ _ _ _ _ _ _ fun r => ?_)
  refine seq c (part12 m K c _ _ _ _ _ _ fun r => ?_)
  obtain ⟨_, _⟩ := r
  refine seq c (part13 m K c _ _ _ _ _ _ _ fun r => ?_)
  refine seq c (part14 m K c _ _ _ _ _ fun r => ?_)
  refine seq c (part15 m K c _ _ _ _ _ fun r => ?_)
  obtain ⟨_, _⟩ := r
  refine seq c (part16 m K c _ _ _ _ _ _ _ _ fun r => ?_)
  refine seq c (part17 m K c _ _ _ _ _ _ _ fun r => ?_)
  refine seq c (part18 m K c _ _ _ _ _ _ _ fun r => ?_)
  refine seq c (part19 m K c _ _ _ _ _ _ _ fun r => ?_)
  obtain ⟨_, _⟩ := r
  refine seq c (part20 m K c _ _ _ _ _ _ _ fun r => ?_)
  refine seq c (part21 m K c _ _ _ _ _ _ fun r => ?_)
  refine seq c (part22 m K c _ _ _ _ _ _ fun r => ?_)
  refine seq c (part23 m K c _ _ _ _ _ fun r => ?_)
  obtain ⟨_, _⟩ := r
  refine seq c (part24 m K c _ _ _ _ _ fun r => ?_)
  refine seq c (part25 m K c _ _ _ fun r => ?_)
  refine seq c (part26 m K c _ _ _ _ fun r => ?_)
  refine seq c (part27 m K c _ _ _ fun r => ?_)
  refine seq c (part28 m K c _ _ _ fun r => ?_)
  refine seq c (part29 m K c _ _ _ fun r => ?_)
  obtain ⟨_, _⟩ := r
  refine seq c (part30 m K c _ _ _ _ fun r => ?_)
  refine seq c (part31 m K c _ _ _ fun r => ?_)
  simp only [Prog.lift, Prog.bind_op, Prog.bind_ret, Prog.pure_eq_ret]
  refine op_back m K c 59 15 rfl rfl rfl ?_
  exact ends c hk

end Cert.KernelIdeal.Mesh

end
-- ==== Proof.KernelIdeal.Body.lean ====
/-
The body of the kernel as the pipeline calls it: what a device is given at the launch is what the body starts from, and
what the body leaves is the whole landing buffer, the whole block of `x`, and every semaphore at zero.
-/
module

public import proofs.«01_k».proof.Proof.KernelIdeal.Parts

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## Before the body -/

theorem ixS_inj : Function.Injective ixS := by decide +kernel
theorem ixR_inj : Function.Injective ixR := by decide +kernel
/-- A device's cells one by one: the barrier's, the local copy's, the senders', the receivers'. -/
theorem bigSep_cells (Φ : Fin 42 → sProp 𝕄) :
    bigSep Finset.univ Φ = iprop(Φ 0 ∗ Φ 1 ∗ (bigSep Finset.univ fun t => Φ (ixS t)) ∗ bigSep Finset.univ fun t => Φ (ixR t)) := by
  rw [show (Finset.univ : Finset (Fin 42)) = insert 0 (insert 1 (Finset.univ.map ⟨ixS, ixS_inj⟩ ∪ Finset.univ.map ⟨ixR, ixR_inj⟩)) by decide +kernel,
    bigSep_insert (by decide +kernel), bigSep_insert (by decide +kernel), bigSep_union (by decide +kernel), bigSep_map, bigSep_map]
  rfl

/-- The rights to pay that device `c` holds, and its place at each of its own cells. -/
def ghost (c : Dev nD) : sProp 𝕄 :=
  iprop((bigSep Finset.univ fun d : Fin 3 => dutyTok ER (bCell (nb d c)) 0 d)
    ∗ (bigSep Finset.univ fun t => dutyTok ER (sCell t c) 0 (0 : Fin 3)) ∗ (bigSep Finset.univ fun t => dutyTok ER (rCell t (peer t c)) 0 (0 : Fin 3))
    ∗ dutyTok ER (lCell c) 0 (0 : Fin 3) ∗ bigSep Finset.univ fun k => atPos ER (kcell (c, k)) 0 (∅ : Finset (Fin 3)) 0)

/-- What the others will pay device `c`. -/
def dues (c : Dev nD) : sProp 𝕄 :=
  iprop(cred (tallyAt (bCell c) () 3) ∗ bigSep Finset.univ fun t => cred (tallyAt (rCell t c) () (amt t)))

/-- What a device has at the start of the pipeline. -/
def start (c : Dev nD) : sProp 𝕄 := iprop((∃ K, records m K ∗ ghost c) ∗ dues c ∗ xP m c Finset.univ fullShare)
/-- Before the body, with the landing buffer besides; -/
def Φ₀ (c : Dev nD) : sProp 𝕄 := iprop(start m c ∗ ∃ f, ldP (F := F) c Finset.univ fullShare f)
/-- after it: everything whole, every semaphore at zero. -/
def Φ₁ (c : Dev nD) : sProp 𝕄 :=
  iprop(ldP c Finset.univ fullShare (land m c) ∗ xP m c Finset.univ fullShare
    ∗ (bigSep Finset.univ fun t => semVal (sCell t c) 0) ∗ (bigSep Finset.univ fun t => semVal (rCell t c) 0) ∗ semVal (lCell c) 0 ∗ semVal (bCell c) 0)

theorem bigSep_fin3 (Φ : Fin 3 → sProp 𝕄) : bigSep Finset.univ Φ = iprop(Φ 0 ∗ Φ 1 ∗ Φ 2) := bigSep_univ_eq_bigSepL [0, 1, 2] (by decide) (by decide) Φ

/-- The landing buffer is where the three neighbours' transfers land. -/
theorem mine_all (c : Dev nD) : iprop(∃ f, ldP (F := F) c Finset.univ fullShare f) ⊢ iprop(mine (F := F) 0 c ∗ mine 1 c ∗ mine 2 c) := by
  rw [← bigSep_fin3 (fun d => mine (F := F) d c)]
  unfold mine
  have h : (bigSep Finset.univ fun d : Fin 3 => bigSep (Finset.univ.filter fun t => grp t = d) fun t => iprop(∃ f, ldP (F := F) c (piece t c) fullShare f))
      = bigSep Finset.univ fun t : Fin 20 => iprop(∃ f, ldP (F := F) c (piece t c) fullShare f) := by
    rw [bigSep_fiberwise Finset.univ grp, show Finset.univ.image grp = Finset.univ by decide]
  rw [h]
  iintro ⟨%f, H⟩
  ihave H' := (Entails.of_eq (ld_pieces c fullShare f)) $$ H
  have h1 (t : Fin 20) : ldP (F := F) c (piece t c) fullShare f ⊢ iprop(∃ f, ldP (F := F) c (piece t c) fullShare f) := by
    iintro H
    iexists f
    iexact H
  have h' : (bigSep Finset.univ fun t : Fin 20 => ldP (F := F) c (piece t c) fullShare f) ⊢ bigSep Finset.univ fun t : Fin 20 => iprop(∃ f, ldP (F := F) c (piece t c) fullShare f) :=
    bigSep_mono fun t _ => h1 t
  iapply h' $$ H'

theorem split_start (c : Dev nD) :
    iprop(ghost c ∗ dues c ∗ xP m c Finset.univ fullShare ∗ (∃ f, ldP (F := F) c Finset.univ fullShare f) ∗ ∃ f, stP (F := F) c f)
      ⊢ iprop(sg 0 c ∗ sg 1 c ∗ sg 2 c ∗ bw m c ∗ xRest m c) := by
  have hH : (bigSep Finset.univ fun t => Half (F := F) t c)
      = iprop((bigSep Finset.univ fun t => dutyTok ER (sCell t c) 0 (0 : Fin 3)) ∗ (bigSep Finset.univ fun t => dutyTok ER (rCell t (peer t c)) 0 (0 : Fin 3))
        ∗ bigSep Finset.univ fun t => atPos ER (sCell t c) 0 (∅ : Finset (Fin 3)) 0) := by
    unfold Half; rw [bigSep_sep', bigSep_sep']
  have hR : RR m (fun _ => false) c
      = iprop((bigSep Finset.univ fun t => cred (tallyAt (rCell t c) () (amt t))) ∗ bigSep Finset.univ fun t => atPos ER (rCell t c) 0 (∅ : Finset (Fin 3)) 0) := by
    rw [← bigSep_sep']; rfl
  have hC : (bigSep Finset.univ fun k => (atPos ER (kcell (c, k)) 0 (∅ : Finset (Fin 3)) 0 : sProp 𝕄))
      = iprop(atPos ER (bCell c) 0 (∅ : Finset (Fin 3)) 0 ∗ atPos ER (lCell c) 0 (∅ : Finset (Fin 3)) 0
        ∗ (bigSep Finset.univ fun t => atPos ER (sCell t c) 0 (∅ : Finset (Fin 3)) 0) ∗ bigSep Finset.univ fun t => atPos ER (rCell t c) 0 (∅ : Finset (Fin 3)) 0) := by
    rw [bigSep_cells]
    have e1 : (bigSep Finset.univ fun t => (atPos ER (kcell (c, ixS t)) 0 (∅ : Finset (Fin 3)) 0 : sProp 𝕄)) = bigSep Finset.univ fun t => atPos ER (sCell t c) 0 (∅ : Finset (Fin 3)) 0 :=
      bigSep_congr fun t _ => by rw [kcell, csem_s]
    have e2 : (bigSep Finset.univ fun t => (atPos ER (kcell (c, ixR t)) 0 (∅ : Finset (Fin 3)) 0 : sProp 𝕄)) = bigSep Finset.univ fun t => atPos ER (rCell t c) 0 (∅ : Finset (Fin 3)) 0 :=
      bigSep_congr fun t _ => by rw [kcell, csem_r]
    rw [e1, e2]; rfl
  unfold ghost dues sg bw
  rw [hH, hR, hC, bigSep_fin3]
  iintro ⟨⟨⟨T0, T1, T2⟩, TS, TR, TL, AB, AL, AS, AR⟩, ⟨CB, CR⟩, HX, HL, HS⟩
  ihave HM := (mine_all (F := F) c) $$ HL
  icases HM with ⟨M0, M1, M2⟩
  ihave HX' := (x_split m c).1 $$ HX
  icases HX' with ⟨XH, XF, XR⟩
  isplitl [T0 M0]; · isplitl [T0] <;> iassumption
  isplitl [T1 M1]; · isplitl [T1] <;> iassumption
  isplitl [T2 M2]; · isplitl [T2] <;> iassumption
  isplitr [XR]
  · isplitl [CB]; · iexact CB
    isplitl [AB]; · iexact AB
    isplitl [TS TR AS]
    · isplitl [TS]; · iexact TS
      isplitl [TR] <;> iassumption
    isplitl [CR AR]; · isplitl [CR] <;> iassumption
    isplitl [XF]; · iexact XF
    unfold LS
    isplitl [HS]; · iexact HS
    isplitl [XH]; · iexact XH
    isplitl [TL] <;> iassumption
  iexact XR

/-! ## After the body -/

/-- What the transfers read is what of `x` they read and what they carried on of each landed chunk. -/
theorem src_all (c : Dev nD) : (bigSep Finset.univ fun t => Src m t c)
    = iprop((bigSep firsts fun t => Src m t c) ∗ bigSep Finset.univ fun t => bigSep (kids t) fun k => Src m k c) := by
  have h : (Finset.univ : Finset (Fin 20)) = firsts ∪ Finset.univ.biUnion kids := by decide +kernel
  have e : (bigSep (firsts ∪ Finset.univ.biUnion kids) fun t => Src m t c)
      = iprop((bigSep firsts fun t => Src m t c) ∗ bigSep Finset.univ fun t => bigSep (kids t) fun k => Src m k c) := by
    rw [bigSep_union (by decide +kernel), bigSep_biUnion_eq Finset.univ kids _ (by decide +kernel)]; rfl
  exact (congrArg (fun s => bigSep s fun t => Src m t c) h).trans e

theorem finish (c : Dev nD) (f : (cc0_stg0_0 : Ref sig .tc).ty.Contents (Elt F)) :
    iprop(St m c 60 ∗ LF m f c ∗ semVal (bCell c) 0 ∗ xRest m c) ⊢ iprop(Φ₁ m c ∗ OW c 0 ∗ stP c f) := by
  have hT : TT m (fun _ => 3) c = iprop((bigSep Finset.univ fun t => semVal (sCell t c) 0) ∗ bigSep Finset.univ fun t => Src m t c) := by
    rw [← bigSep_sep']; rfl
  have hG : ldP c Finset.univ fullShare (land m c)
      = iprop(ldP c Finset.univ fullShare.left (land m c) ∗ (bigSep Finset.univ fun t => Keep m t c) ∗ bigSep Finset.univ fun t => bigSep (kids t) fun k => Src m k c) := by
    rw [ld_pieces, ld_pieces c fullShare.left, ← bigSep_sep', ← bigSep_sep']
    exact bigSep_congr fun t _ => Got_split m t c
  unfold St LF Φ₁
  rw [Pn_end, Qn_end, ln_end, hT, RR_done, src_all, hG]
  iintro ⟨⟨⟨ZS, XF, SK⟩, ⟨ZR, HL, HK⟩, HO⟩, ⟨HS, XH, ZL⟩, ZB, XR⟩
  ihave HX := (x_split m c).2 $$ [XF XH XR]
  · isplitl [XH]; · iexact XH
    isplitl [XF] <;> iassumption
  isplitr [HO HS]
  · isplitl [HL HK SK]
    · isplitl [HL]; · iexact HL
      isplitl [HK] <;> iassumption
    isplitl [HX]; · iexact HX
    isplitl [ZS]; · iexact ZS
    isplitl [ZR]; · iexact ZR
    isplitl [ZL] <;> iassumption
  isplitl [HO]; · iexact HO
  iexact HS

/-! ## The pipeline's data -/

/-- What the pipeline carries: the one output block, the assertions before and after, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The output's stage holding `X`. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def pre (c : Dev nD) : sProp 𝕄 :=
  iprop(Φ₀ m c ∗ (dats m ρ 0 c).owesAt () t0_0.castSucc ∗ ∃ d, stg c ((dats m ρ 0 c).before (0 : Fin 1) t0_0 d))
def post (c : Dev nD) : sProp 𝕄 :=
  iprop(Φ₁ m c ∗ (dats m ρ 0 c).owesAt () t0_0.succ ∗ stg c (outAt m c))

set_option maxRecDepth 65536 in
/-- The body, from what the pipeline holds before its one point to what it holds after. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show pre m ρ c ⊢ wpc c (cc0_body (F := F) (Memref.whole main_arg0) (Memref.isWhole_whole _) (Memref.whole cc0_stg0_0) (Memref.isWhole_whole _) (Memref.whole cc0_scratch0) (Memref.isWhole_whole _)
    cc0_scratch1 cc0_scratch2 cc0_scratch3 cc0_scratch4 cc0_scratch5 cc0_scratch6 cc0_scratch7 cc0_scratch8 cc0_scratch9 cc0_scratch10 cc0_scratch11) (fun _ => post m ρ c)
  have hk (K) : iprop(records m K ∗ St m c 60 ∗ LF m (outAt m c) c ∗ semVal (bCell c) 0 ∗ xRest m c) ⊢ post m ρ c := by
    refine (sep_mono_right (finish m c (outAt m c))).trans ?_
    unfold post OW stP Dat.owesAt Pipeline.owesWithin
    rw [show (dats (F := F) m ρ 0 c).owed t0_0.succ = 0 from rfl]
    iintro ⟨-, HΦ, ⟨%W', HO⟩, Hs⟩
    isplitl [HΦ]; · iexact HΦ
    isplitl [HO]
    · iexists W'
      isplitr; · ipureintro; exact fun _ _ => Or.inl trivial
      iexact HO
    iexists _
    isplitr; · (ipureintro; rfl)
    iexact Hs
  unfold pre Φ₀ start Dat.owesAt Pipeline.owesWithin
  rw [show (dats (F := F) m ρ 0 c).owed t0_0.castSucc = oweB c order [0, 1, 2] from rfl]
  iintro ⟨⟨⟨⟨%K, #HI, Hg⟩, Hd, Hx⟩, Hl⟩, ⟨%W, %hW, HO⟩, %d, %f, %hf, Hs⟩
  iapply (whole m K c (R := xRest m c) (Kt := fun _ => post m ρ c) (hk K))
  isplitr; · iexact HI
  isplitl [HO]; · unfold OW; iexists W; iexact HO
  iapply (split_start m c)
  isplitl [Hg]; · iexact Hg
  isplitl [Hd]; · iexact Hd
  isplitl [Hx]; · iexact Hx
  isplitl [Hl]; · iexact Hl
  iexists f
  unfold stP
  iexact Hs

end Cert.KernelIdeal.Mesh

end
-- ==== Proof.KernelIdeal.Run.lean ====
/-
The launch: the cells and the rights to pay them are made, dealt to the devices that pay, and the run is concluded.
-/
module

public import proofs.«01_k».proof.Proof.KernelIdeal.Body
public import Idealize.ShloMosaic.Lib.Pipeline.CollectiveSegs

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## Cells and the rights to pay them -/

/-- The kernel's own semaphores: all the DMA ones but the pipeline's. -/
def osem (k : Fin 41) : SemLoc sig := .dma (dS (k.val + 1) (by omega))

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  intro k k' h
  unfold csem at h
  split at h <;> split at h
  · exact Fin.ext (by omega)
  · exact (nomatch h)
  · exact (nomatch h)
  · have h2 := congrArg (fun q : Fin 42 => q.val) (SemLoc.dma.inj h)
    exact Fin.ext h2

theorem kcell_injective : Function.Injective (kcell : Dev nD × Fin 42 → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The right to the first payment of each cell, -/
def tok0 (ck : Dev nD × Fin 42) : GSem nD τ sig × ℕ × Fin 3 := (kcell ck, 0, 0)
/-- and to the barrier cells' two others. -/
def tokB (cj : Dev nD × Fin 2) : GSem nD τ sig × ℕ × Fin 3 := (bCell cj.1, 0, cj.2.succ)
theorem tok0_injective : Function.Injective tok0 := fun a b h => kcell_injective (congrArg Prod.fst h)
theorem tokB_injective : Function.Injective tokB := by
  rintro ⟨c, j⟩ ⟨c', j'⟩ h
  have h1 : c = c' := congrArg (fun g : GSem nD τ sig × ℕ × Fin 3 => g.1.1.1) h
  have h2 : j = j' := Fin.succ_injective _ (congrArg (fun g : GSem nD τ sig × ℕ × Fin 3 => g.2.2) h)
  rw [h1, h2]
def allToks : Finset (GSem nD τ sig × ℕ × Fin 3) := Finset.univ.map ⟨tok0, tok0_injective⟩ ∪ Finset.univ.map ⟨tokB, tokB_injective⟩
theorem toks_disjoint : Disjoint (Finset.univ.map ⟨tok0, tok0_injective⟩) (Finset.univ.map ⟨tokB, tokB_injective⟩) := by
  rw [Finset.disjoint_left]
  intro x h h'
  obtain ⟨a, -, rfl⟩ := Finset.mem_map.mp h
  obtain ⟨b, -, e⟩ := Finset.mem_map.mp h'
  exact Fin.succ_ne_zero b.2 (congrArg (fun g : GSem nD τ sig × ℕ × Fin 3 => g.2.2) e)

def u₀ : UU :=
  (initOf (Pipeline.cells cfgs cellOf_inj) (Pipeline.launchToks cfgs cellOf_inj), initOf allCells allToks)

/-- The rights to pay device `c`'s own cells. -/
def toks (c : Dev nD) : sProp 𝕄 :=
  iprop((bigSep Finset.univ fun k => dutyTok ER (kcell (c, k)) 0 (0 : Fin 3)) ∗ bigSep Finset.univ fun j : Fin 2 => dutyTok ER (bCell c) 0 j.succ)

/-- Device `c`'s place at each of its cells, and that each is at its only round. -/
def places (c : Dev nD) : sProp 𝕄 :=
  iprop((bigSep Finset.univ fun k => atPos ER (kcell (c, k)) 0 (∅ : Finset (Fin 3)) 0) ∗ bigSep Finset.univ fun k => reached ER (kcell (c, k)) 0)

/-- What the launch makes for device `c`. -/
def G (c : Dev nD) : sProp 𝕄 :=
  iprop((bigSep Finset.univ fun k => roundState ER (Rd m) (kcell (c, k)) 0) ∗ places c ∗ toks c)

/-- The invariants of all cells, and that each is at its only round. -/
def shared (K : Dev nD × Fin 42 → ℕ) : sProp 𝕄 :=
  bigSep Finset.univ fun ck => iprop(cellInv ER (Rd m) (K ck) (kcell ck) ∗ reached ER (kcell ck) 0)
instance shared_persistent (K : Dev nD × Fin 42 → ℕ) : BI.Persistent (shared (F := F) m K) := by unfold shared; infer_instance

/-- What device `c` has of it once the rights are dealt. -/
def G' (c : Dev nD) : sProp 𝕄 := iprop(∃ K, shared m K ∗ ghost c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 42 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks
    rw [bigSep_union toks_disjoint, bigSep_map, bigSep_map, bigSep_univ_prod, bigSep_univ_prod, bigSep_sep']; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (bCell c) 0 := by
  unfold unscopedSems0; rw [bigSep_eq_bigSepL_of_eq [SemLoc.reg bS] (by decide +kernel) (by decide +kernel)]; rfl

/-- All of a device's semaphores but the pipeline's, at zero. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Fin 42 => semVal (kcell (c, k)) 0 : sProp 𝕄) := by
  rw [unscopedSems0_eq, show (Finset.univ : Finset (Fin 42)) = insert 0 (Finset.univ.map (Fin.succEmb 41)) by decide +kernel, bigSep_insert (by decide +kernel), bigSep_map,
    sep_comm_eq]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k)))) ∗ places c ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Fin 42 => semVal (kcell (c, k)) 0) ∗ bigSep Finset.univ fun k : Fin 42 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Across an axis and back. -/
def nbE (d : Fin 3) : Dev nD ≃ Dev nD := ⟨nb d, nb d, nb_nb d, nb_nb d⟩
def peerE (t : Fin 20) : Dev nD ≃ Dev nD := ⟨peer t, peer t, peer_peer t, peer_peer t⟩

/-- A family over pairs, read either way. -/
theorem bigSep_swap {I J : Type} [Fintype I] [Fintype J] (Φ : I → J → sProp (MT nD τ sig Unit (Elt F) ℕ UU ℕ)) :
    (bigSep Finset.univ fun i => bigSep Finset.univ fun j => Φ i j) = bigSep Finset.univ fun j => bigSep Finset.univ fun i => Φ i j := by
  rw [← bigSep_univ_prod (fun p : I × J => Φ p.1 p.2), bigSep_univ_equiv (Equiv.prodComm J I), bigSep_univ_prod]
  rfl

/-- The rights dealt to those who pay: each barrier right one step along its axis, each receiver's to the sender. -/
theorem deal : (bigSep Finset.univ fun c : Dev nD => iprop((bigSep Finset.univ fun k => atPos ER (kcell (c, k)) 0 (∅ : Finset (Fin 3)) 0) ∗ toks c) : sProp 𝕄)
    ⊢ bigSep Finset.univ fun c : Dev nD => ghost c := by
  have hT (c : Dev nD) : toks (F := F) c = iprop((bigSep Finset.univ fun d : Fin 3 => dutyTok ER (bCell c) 0 d)
      ∗ (bigSep Finset.univ fun t => dutyTok ER (sCell t c) 0 (0 : Fin 3)) ∗ (bigSep Finset.univ fun t => dutyTok ER (rCell t c) 0 (0 : Fin 3))
      ∗ dutyTok ER (lCell c) 0 (0 : Fin 3)) := by
    unfold toks
    rw [bigSep_cells, bigSep_fin3, bigSep_univ_eq_bigSepL [(0 : Fin 2), 1] (by decide) (by decide)]
    have e1 : (bigSep Finset.univ fun t => (dutyTok ER (kcell (c, ixS t)) 0 (0 : Fin 3) : sProp 𝕄)) = bigSep Finset.univ fun t => dutyTok ER (sCell t c) 0 (0 : Fin 3) :=
      bigSep_congr fun t _ => by rw [kcell, csem_s]
    have e2 : (bigSep Finset.univ fun t => (dutyTok ER (kcell (c, ixR t)) 0 (0 : Fin 3) : sProp 𝕄)) = bigSep Finset.univ fun t => dutyTok ER (rCell t c) 0 (0 : Fin 3) :=
      bigSep_congr fun t _ => by rw [kcell, csem_r]
    rw [e1, e2]
    show iprop((dutyTok ER (bCell c) 0 (0 : Fin 3) ∗ dutyTok ER (lCell c) 0 (0 : Fin 3) ∗ (bigSep Finset.univ fun t => dutyTok ER (sCell t c) 0 (0 : Fin 3))
      ∗ (bigSep Finset.univ fun t => dutyTok ER (rCell t c) 0 (0 : Fin 3))) ∗ (dutyTok ER (bCell c) 0 (1 : Fin 3) ∗ dutyTok ER (bCell c) 0 (2 : Fin 3))) = _
    refine eq_of_bi ⟨?_, ?_⟩
    · iintro ⟨⟨H0, HL, HS, HR⟩, H1, H2⟩; iframe
    · iintro ⟨⟨H0, H1, H2⟩, HS, HR, HL⟩; iframe
  have hB : (bigSep Finset.univ fun c : Dev nD => bigSep Finset.univ fun d : Fin 3 => (dutyTok ER (bCell c) 0 d : sProp 𝕄))
      = bigSep Finset.univ fun c : Dev nD => bigSep Finset.univ fun d : Fin 3 => dutyTok ER (bCell (nb d c)) 0 d := by
    rw [bigSep_swap, bigSep_swap (I := Dev nD)]
    exact bigSep_congr fun d _ => bigSep_univ_equiv (nbE d) (fun c => (dutyTok ER (bCell c) 0 d : sProp 𝕄))
  have hR : (bigSep Finset.univ fun c : Dev nD => bigSep Finset.univ fun t : Fin 20 => (dutyTok ER (rCell t c) 0 (0 : Fin 3) : sProp 𝕄))
      = bigSep Finset.univ fun c : Dev nD => bigSep Finset.univ fun t : Fin 20 => dutyTok ER (rCell t (peer t c)) 0 (0 : Fin 3) := by
    rw [bigSep_swap, bigSep_swap (I := Dev nD)]
    exact bigSep_congr fun t _ => bigSep_univ_equiv (peerE t) (fun c => (dutyTok ER (rCell t c) 0 (0 : Fin 3) : sProp 𝕄))
  unfold ghost
  simp only [hT, bigSep_sep']
  rw [hB, hR]
  iintro ⟨HA, HB, HS, HR, HL⟩
  iframe

theorem bigSep_beside {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k)))) ∗ places c ∗ toks c) : sProp 𝕄)
      ⊢ bigSep Finset.univ (G' m) := by
  unfold places
  rw [bigSep_sep', bigSep_sep', ← bigSep_univ_prod (fun ck : Dev nD × Fin 42 => iprop(∃ κ : ℕ, cellInv ER (Rd m) κ (kcell ck))),
    bigSep_sep', ← bigSep_univ_prod (fun ck : Dev nD × Fin 42 => (reached ER (kcell ck) 0 : sProp 𝕄))]
  iintro ⟨HI, ⟨Hat, #HR⟩, Htok⟩
  ihave HK := (BI.bigSep_exists_pi Finset.univ (fun (ck : Dev nD × Fin 42) (κ : ℕ) => (cellInv ER (Rd m) κ (kcell ck) : sProp 𝕄))) $$ HI
  icases HK with ⟨%K, #HI⟩
  have hd : iprop((bigSep Finset.univ fun c : Dev nD => bigSep Finset.univ fun k => atPos ER (kcell (c, k)) 0 (∅ : Finset (Fin 3)) 0)
      ∗ bigSep Finset.univ fun c : Dev nD => toks c) ⊢ (bigSep Finset.univ fun c : Dev nD => ghost c : sProp 𝕄) := by
    rw [← bigSep_sep']; exact deal
  ihave Hg := hd $$ [Hat Htok]
  · isplitl [Hat] <;> iassumption
  have hi (c : Dev nD) : iprop(shared m K ∗ ghost c) ⊢ G' m c := by
    unfold G'
    iintro H
    iexists K
    iexact H
  iapply (bigSep_beside (R := shared m K) fun c _ => hi c)
  isplitr
  · unfold shared
    rw [bigSep_sep']
    isplitl; · iexact HI
    iexact HR
  · iexact Hg

/-- The cells of all devices are made at once, and the rights dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed a device at launch -/

theorem dues_owe (c : Dev nD) (l : List (Fin 20)) (hl : l.Nodup) :
    (Pipeline.launchCred (fun d => owe d l) c : sProp 𝕄) ⊢ bigSep l.toFinset fun t => cred (tallyAt (rCell t c) () (amt t)) := by
  induction l with
  | nil =>
    show (Pipeline.launchCred (fun _ : Dev nD => (0 : CellTallies nD τ sig Unit)) c : sProp 𝕄) ⊢ _
    rw [Pipeline.launchCred_zero, List.toFinset_nil, BI.bigSep_empty]
    exact BI.Entails.refl _
  | cons t l ih =>
    show (Pipeline.launchCred (fun d => owe d l + tallyAt (rCell t (peer t d)) () (amt t)) c : sProp 𝕄) ⊢ _
    rw [Pipeline.launchCred_add, List.toFinset_cons, bigSep_insert (fun h => (List.nodup_cons.mp hl).1 (List.mem_toFinset.mp h))]
    have h : (Pipeline.launchCred (fun d => tallyAt (rCell t (peer t d)) () (amt t)) c : sProp 𝕄) ⊢ cred (tallyAt (rCell t c) () (amt t)) :=
      Pipeline.launchCred_tallyAt (.dma (rS t)) (peer t) (peer t) (peer_peer t) (peer_peer t) () (amt t) c
    exact (BI.sep_mono (ih (List.nodup_cons.mp hl).2) h).trans BI.sep_comm

theorem creds (c : Dev nD) : (Pipeline.launchCred O₀ c : sProp 𝕄) ⊢ dues c := by
  have hb (d : Fin 3) : (Pipeline.launchCred (fun e => tallyAt (bCell (nb d e)) () 1) c : sProp 𝕄) ⊢ cred (tallyAt (bCell c) () 1) :=
    Pipeline.launchCred_tallyAt (.reg bS) (nb d) (nb d) (nb_nb d) (nb_nb d) () 1 c
  have h3 : iprop(cred (tallyAt (bCell c) () 1) ∗ cred (tallyAt (bCell c) () 1) ∗ cred (tallyAt (bCell c) () 1)) ⊢ (cred (tallyAt (bCell c) () 3) : sProp 𝕄) := by
    rw [show (tallyAt (bCell c) () 3 : CellTallies nD τ sig Unit) = tallyAt (bCell c) () 1 + (tallyAt (bCell c) () 1 + tallyAt (bCell c) () 1) by rw [tallyAt_add, tallyAt_add]]
    exact (sep_mono_right (cred_add _ _).2).trans (cred_add _ _).2
  have ho := dues_owe (F := F) c order (by decide)
  rw [show order.toFinset = Finset.univ by decide] at ho
  show (Pipeline.launchCred (fun e => ((owe e order + tallyAt (bCell (nb 2 e)) () 1) + tallyAt (bCell (nb 1 e)) () 1) + tallyAt (bCell (nb 0 e)) () 1) c : sProp 𝕄) ⊢ _
  rw [Pipeline.launchCred_add, Pipeline.launchCred_add, Pipeline.launchCred_add]
  unfold dues
  iintro ⟨⟨⟨HO, H2⟩, H1⟩, H0⟩
  isplitr [HO]
  · iapply h3
    isplitl [H2]; · iapply (hb 2) $$ H2
    isplitl [H1]; · iapply (hb 1) $$ H1
    iapply (hb 0) $$ H0
  · iapply ho $$ HO

/-! ## In and out of the pipeline -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, #Hlev, Hcr, -, HG⟩
  ihave Hc := (creds (F := F) c) $$ Hcr
  unfold G'
  icases HG with ⟨%K, #HI, Hg⟩
  imodintro
  unfold start records xP shared
  isplitl
  · isplitl [Hg]
    · iexists K
      isplitr [Hg]
      · isplitr; · iexact HI
        iexact Hlev
      iexact Hg
    isplitl [Hc]; · iexact Hc
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ ldP
  iintro ⟨Hs, -, Hr⟩
  isplitl [Hs]; · iexact Hs
  iexact Hr

theorem phi1_exit (c : Dev nD) :
    (dats m ρ 0 c).Φ (Fin.last cfg0.N) ⊢ iprop((xP m c Finset.univ fullShare ∗ unscopedSems0 c) ∗ Pipeline.ownSems0 osem c ∗ Pipeline.scopedRest cfg0.spec c) := by
  rw [show (dats m ρ 0 c).Φ (Fin.last cfg0.N) = Φ₁ m c from rfl, scopedRest0_eq]
  have hz : iprop((bigSep Finset.univ fun t => semVal (sCell t c) 0) ∗ (bigSep Finset.univ fun t => semVal (rCell t c) 0) ∗ semVal (lCell c) 0 ∗ semVal (bCell c) 0)
      ⊢ (iprop(Pipeline.ownSems0 (Ix := Unit) (Name := ℕ) (U := UU) (Lvl := ℕ) (Val := Elt F) (τ := τ) osem c ∗ unscopedSems0 c) : sProp 𝕄) := by
    rw [sems0_eq, bigSep_cells]
    have e1 : (bigSep Finset.univ fun t => (semVal (kcell (c, ixS t)) 0 : sProp 𝕄)) = bigSep Finset.univ fun t => semVal (sCell t c) 0 :=
      bigSep_congr fun t _ => by rw [kcell, csem_s]
    have e2 : (bigSep Finset.univ fun t => (semVal (kcell (c, ixR t)) 0 : sProp 𝕄)) = bigSep Finset.univ fun t => semVal (rCell t c) 0 :=
      bigSep_congr fun t _ => by rw [kcell, csem_r]
    rw [e1, e2]
    iintro ⟨HS, HR, HL, HB⟩
    isplitl [HB]; · iexact HB
    isplitl [HL]; · iexact HL
    isplitl [HS] <;> iassumption
  unfold Φ₁ ldP
  iintro ⟨Hr, Hx, HZ⟩
  ihave HZ' := hz $$ HZ
  icases HZ' with ⟨Ho, Hu⟩
  isplitl [Hx Hu]
  · isplitl [Hx] <;> iassumption
  isplitl [Ho]; · iexact Ho
  iexists (land m c)
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The output array at the end. -/
def finalA (c : Dev nD) (w : Fin cfg0.W) : Buf (Elt F) ((cfg0.win w).arr.view.loc (c : Thread nD τ)) := (dats m ρ 0 c).arrAt w cfg0.N

/-- How every run ends: the output as computed, `x` as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 8000 in
/-- On the eight devices, for any float values and from any memory with zero counters, every weakly fair execution
    terminates, with the output as computed, `x` as it was and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(xP m c Finset.univ fullShare ∗ unscopedSems0 c)) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      unfold xP
      iintro ⟨⟨Hx, Hu⟩, -, HSI⟩
      icombine HSI Hx gives %h0
      imod (Pipeline.unscopedSems0_read (X := unscopedSems0 c) (c := c) fupd_intro s') $$ [Hu HSI] with ⟨%hz, HSI⟩
      · isplitl [Hu] <;> iassumption
      imodintro
      isplitr; · ipureintro; exact ⟨Buf.eq_of_forall_mem_univ h0, hz⟩
      iexact HSI)
    (hQ := fun _ h hs => ⟨fun c => ⟨fun w => (h c).1 w, (h c).2.2.1⟩, sem_eq_zero hs fun c => (h c).2.2.2⟩)

end Cert.KernelIdeal.Mesh

end
-- ==== Proof.KernelIdeal.Value.lean ====
/-
What the result array holds: the sum of a device's own block of `x` and of the one across `y`, at its half of the
columns, which is its part of the sum of the whole array over the axis the mesh's `y` cuts.
-/
module

public import proofs.«01_k».proof.Proof.KernelIdeal.Run
public import proofs.«01_k».proof.Proof.Gen.KernelIdeal.Points
public import proofs.«01_k».proof.Proof.Gen.ReferenceIdeal.Run
public import Idealize.ShloMosaic.Lib.Layout
public import Idealize.ShloMosaic.Lib.IdealHost
public import Idealize.ShloMosaic.Lib.Pointwise.Reduce
public import Idealize.ShloMosaic.Lib.Pointwise.Reshape

@[expose] public section

noncomputable section

namespace Cert.KernelIdeal.Mesh

open Cert.KernelIdeal Cert.KernelIdeal.Gen
open Idealize.ShloMosaic hiding ix2 ix3
open Idealize.ShloMosaic.TcCoe Idealize.ShloMosaic.ValueIdx
open Idealize.SL.Sem

/-- The result array ends holding what the body left in the window's one block, which is the whole of it. -/
theorem finalA_out {F : FTy → Type} [FloatOps F] (m : (ℓ : Loc nD τ sig) → Buf (Elt F) ℓ) (ρ : Dev nD → PrngReg) (c : Dev nD) :
    finalA m ρ c (0 : Fin 1) = outAt m c := by
  unfold finalA
  rw [show cfg0.N = (t0_0 : Fin cfg0.N).val + 1 from N_0, (dats m ρ 0 c).arrAt_succ (0 : Fin 1) t0_0, flush0_0, if_pos rfl]
  exact Memref.write_access_unit_zero_univ (Elt F) main_v1 (funext fun a => Nat.zero_mul _) _ _ _

/-- The coordinate of device `c` on the mesh's `y`. -/
def yOf (c : Dev nD) : Fin 2 := ⟨(c.val / 2) % 2, Nat.mod_lt _ (by omega)⟩

theorem yOf_src (c : Dev nD) (n : Fin 4096) : (yOf (src c n)).val = 1 - (yOf c).val := by
  show ((4 * (n.val / 2048) + 2 * (1 - (c.val / 2) % 2) + (n.val / 1024) % 2) / 2) % 2 = 1 - (c.val / 2) % 2
  omega

section whole

variable (X : (⟨3, ![2, 4096, 2048]⟩ : Shape).Idx → Ideal .f32)

/-- The reference's value at row `n` and column `k`: the sum of the two slices there. -/
theorem ref_apply (v0 : (⟨2, ![4096, 2048]⟩ : Shape).Idx → Ideal .f32)
    (hv : v0 = Host.reduceAdd (F := Ideal) X (constant Cert.ReferenceIdeal.S_ .f32 0x00000000#32)
      Cert.ReferenceIdeal.Gen.reducesTo_S2x4096x2048_S4096x2048_d0 Cert.ReferenceIdeal.Gen.h_S_) (n : Fin 4096) (k : Fin 2048) :
    v0 (ix2 n k) = (X (ix3 (0 : Fin 2) n k) + X (ix3 (1 : Fin 2) n k) : EReal) := by
  rw [hv, Host.reduceAdd_apply, Ideal.hostReduceAdd_def, Ideal.hostReduceAdd_r3_a0, Fin.sum_univ_two]
  refine (congrArg (· + _) (Ideal.ofBits_zero_f32)).trans ?_
  rw [zero_add]
  rfl

/-- The part of `x` that device `c` holds is slice `y` of the whole, `y` its coordinate. -/
theorem part_x (c : Dev nD) (n : Fin 4096) (k : Fin 2048) :
    Layout.blockN ⟨3, ![1, 4096, 2048]⟩ ⟨3, ![2, 4096, 2048]⟩ (Layout.meshBlock [2, 2, 2] ![[1], [], []] c) X (by decide) (ix3 (0 : Fin 1) n k)
      = X (ix3 (yOf c) n k) := by
  rw [Layout.blockN_apply]
  refine congrArg X (funext fun a => Fin.ext ?_)
  rw [Layout.TilesN.idx_val, Layout.meshBlock_val]
  match a with
  | ⟨0, _⟩ =>
    have h : ∀ c : Dev nD, Layout.meshLin [2, 2, 2] c.val [1] * 1 + 0 = (yOf c).val := by decide
    exact h c
  | ⟨1, _⟩ => exact (congrArg (· + n.val) (Nat.zero_mul _)).trans (Nat.zero_add _)
  | ⟨2, _⟩ => exact (congrArg (· + k.val) (Nat.zero_mul _)).trans (Nat.zero_add _)

/-- The part of the result that device `c` is to hold is the half of the columns its `y` names. -/
theorem part_out (v0 : (⟨2, ![4096, 2048]⟩ : Shape).Idx → Ideal .f32) (c : Dev nD) (i : S4096x1024.Idx) :
    Layout.blockN ⟨2, ![4096, 1024]⟩ ⟨2, ![4096, 2048]⟩ (Layout.meshBlock [2, 2, 2] ![[], [1]] c) v0 (by decide) i = v0 (ix2 (i 0) (col c (i 1))) := by
  rw [Layout.blockN_apply]
  refine congrArg v0 (funext fun a => Fin.ext ?_)
  rw [Layout.TilesN.idx_val, Layout.meshBlock_val]
  match a with
  | ⟨0, _⟩ => exact (congrArg (· + (i 0).val) (Nat.zero_mul _)).trans (Nat.zero_add _)
  | ⟨1, _⟩ =>
    have h : ∀ c : Dev nD, Layout.meshLin [2, 2, 2] c.val [1] * 1024 = 1024 * ((c.val / 2) % 2) := by decide
    exact congrArg (· + (i 1).val) (h c)

/-- Where every device's block of `x` is its part of the whole `X`, the kernel's result on device `c` is its part of
    the sum of `X` over its first axis. -/
theorem outAt_eq (m : (ℓ : Loc nD τ sig) → Buf (Elt Ideal) ℓ)
    (hm : ∀ c : Dev nD, xAt m c = Layout.blockN ⟨3, ![1, 4096, 2048]⟩ ⟨3, ![2, 4096, 2048]⟩ (Layout.meshBlock [2, 2, 2] ![[1], [], []] c) X)
    (v0 : (⟨2, ![4096, 2048]⟩ : Shape).Idx → Ideal .f32)
    (hv : v0 = Host.reduceAdd (F := Ideal) X (constant Cert.ReferenceIdeal.S_ .f32 0x00000000#32)
      Cert.ReferenceIdeal.Gen.reducesTo_S2x4096x2048_S4096x2048_d0 Cert.ReferenceIdeal.Gen.h_S_) (c : Dev nD) :
    outAt m c = Layout.blockN ⟨2, ![4096, 1024]⟩ ⟨2, ![4096, 2048]⟩ (Layout.meshBlock [2, 2, 2] ![[], [1]] c) v0 := by
  funext i
  refine Eq.trans ?_ ((part_out v0 c i).trans (ref_apply X v0 hv (i 0) (col c (i 1)))).symm
  have hx : ∀ (d : Dev nD) (n : Fin 4096) (k : Fin 2048), xAt m d (ix3 (0 : Fin 1) n k) = X (ix3 (yOf d) n k) := fun d n k =>
    (congrFun (hm d) _).trans (part_x X d n k)
  have ho : own m c i = X (ix3 (yOf c) (i 0) (col c (i 1))) := hx _ _ _
  have hl : land m c i = X (ix3 (yOf (src c (i 0))) (i 0) (col c (i 1))) := hx _ _ _
  have hs : outAt m c i = @HAdd.hAdd EReal EReal EReal _ (own m c i) (land m c i) := by
    unfold outAt k0_pay1
    rw [shapeCast_id]
    rfl
  rw [hs, ho, hl]
  have hy := yOf_src c (i 0)
  rcases (show yOf c = 0 ∨ yOf c = 1 by have h := (yOf c).isLt; rcases (show (yOf c).val = 0 ∨ (yOf c).val = 1 by omega) with h | h; exacts [.inl (Fin.ext h), .inr (Fin.ext h)]) with h | h
  · rw [h] at hy ⊢
    rw [show yOf (src c (i 0)) = 1 from Fin.ext hy]
  · rw [h] at hy ⊢
    rw [show yOf (src c (i 0)) = 0 from Fin.ext hy]
    exact add_comm (G := EReal) _ _

end whole

end Cert.KernelIdeal.Mesh

end
-- ==== Proof.lean ====
/-
The five claims: the kernel runs, over its float words and over the extended reals, and so does the reference; the
idealization is the kernel's own text; and what the kernel leaves on each device is that device's part of what the
reference computes. The run itself is proved in the modules under Proof/Kernel and Proof/KernelIdeal, which say the
same of the two printed programs, and the value in Proof/KernelIdeal/Value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, its argument unchanged and every counter at zero: its run with the result dropped. -/
theorem frame_p : Cert.quiescent_Kernel := fun m g _ =>
  (θ_run Cert.Kernel.defs _ _).mono (fun _ h => ⟨fun c => (h.1 c).2, h.2⟩) (Cert.Kernel.Mesh.run_main (F := Bits) m g)

/-- So does it over the extended reals. -/
theorem frame_pi : Cert.quiescent_KernelIdeal := fun m g _ =>
  (θ_run Cert.KernelIdeal.defs _ _).mono (fun _ h => ⟨fun c => (h.1 c).2, h.2⟩) (Cert.KernelIdeal.Mesh.run_main (F := Ideal) m g)

/-- The reference's run, its result dropped; it has no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result on each device is that device's part of the reference's: the sum over the axis that is cut. -/
theorem algebraic : Cert.algebraic_KernelIdeal_ReferenceIdeal := by
  intro m g m' g' _ hx
  refine ⟨_, ?_, (θ_run Cert.ReferenceIdeal.defs _ _).mono (fun _ h => h 0) (Cert.ReferenceIdeal.Value.run (F := Ideal) m' g')⟩
  exact (θ_run Cert.KernelIdeal.defs _ _).mono
    (fun _ h c => ⟨((h.1 c).1 (0 : Fin 1)).trans ((Cert.KernelIdeal.Mesh.finalA_out m g c).trans
      (Cert.KernelIdeal.Mesh.outAt_eq _ m hx _ rfl c)), (h.1 c).2⟩)
    (Cert.KernelIdeal.Mesh.run_main (F := Ideal) m g)

theorem claim : Cert.Claim := ⟨Cert.Kernel.Gen.facts, Cert.KernelIdeal.Gen.facts, Cert.ReferenceIdeal.Gen.facts,
  frame_p, frame_pi, frame_ri, trivial, algebraic⟩

end Cert.Proof

end
